-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![16384, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![16384, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S2x1024x256 : Shape := ⟨3, ![2, 1024, 256]⟩
abbrev S10 : Shape := ⟨1, ![10]⟩
abbrev S_ : Shape := ⟨0, ![]⟩
abbrev S1024x1 : Shape := ⟨2, ![1024, 1]⟩
abbrev S1x256 : Shape := ⟨2, ![1, 256]⟩
abbrev S1023x256 : Shape := ⟨2, ![1023, 256]⟩
abbrev S2x256 : Shape := ⟨2, ![2, 256]⟩
abbrev S1022x256 : Shape := ⟨2, ![1022, 256]⟩
abbrev S4x256 : Shape := ⟨2, ![4, 256]⟩
abbrev S1020x256 : Shape := ⟨2, ![1020, 256]⟩
abbrev S8x256 : Shape := ⟨2, ![8, 256]⟩
abbrev S1016x256 : Shape := ⟨2, ![1016, 256]⟩
abbrev S16x256 : Shape := ⟨2, ![16, 256]⟩
abbrev S1008x256 : Shape := ⟨2, ![1008, 256]⟩
abbrev S32x256 : Shape := ⟨2, ![32, 256]⟩
abbrev S992x256 : Shape := ⟨2, ![992, 256]⟩
abbrev S64x256 : Shape := ⟨2, ![64, 256]⟩
abbrev S960x256 : Shape := ⟨2, ![960, 256]⟩
abbrev S128x256 : Shape := ⟨2, ![128, 256]⟩
abbrev S896x256 : Shape := ⟨2, ![896, 256]⟩
abbrev S256x256 : Shape := ⟨2, ![256, 256]⟩
abbrev S768x256 : Shape := ⟨2, ![768, 256]⟩
abbrev S512x256 : Shape := ⟨2, ![512, 256]⟩
abbrev S1 : Shape := ⟨1, ![1]⟩
abbrev S1x1024x256 : Shape := ⟨3, ![1, 1024, 256]⟩

abbrev nBuf : Space → Nat
  | .hbm => 2
  | .vmem => 4
  | .smem => 0
  | _ => 0

abbrev bufTy : (tb : Table) → Fin (tcTables nBuf tb) → BufTy
  | .hbm, ⟨0, _⟩ => ⟨S1024x256, .bf16⟩
  | .hbm, ⟨1, _⟩ => ⟨S1024x256, .f32⟩
  | .local _ .vmem, ⟨0, _⟩ => ⟨S1024x256, .bf16⟩
  | .local _ .vmem, ⟨1, _⟩ => ⟨S1024x256, .f32⟩
  | .local _ .vmem, ⟨2, _⟩ => ⟨S1024x256, .bf16⟩
  | .local _ .vmem, ⟨3, _⟩ => ⟨S2x1024x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 11 22 bufScoped semScoped dmaSemScoped tileCredit tileCredit_eq_zero tileCredit_pos).withBarriers [(0, 10)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 10

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_7 : BitVec 32 := 1#32
  let v12 : BitVec 32 := Scalar.muli v5 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_10 : BitVec 32 := 1#32
  let v14 : BitVec 32 := Scalar.muli v6 c1_i32_10
  let v15 : BitVec 32 := Scalar.addi c0_i32_11 v14
  v15.toNat
def k0_dev5 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_505 : BitVec 32 := 1#32
  let v1565 : BitVec 32 := Scalar.xori v2 c1_i32_505
  let c1_i32_509 : BitVec 32 := 1#32
  let v1566 : BitVec 32 := Scalar.muli v1565 c1_i32_509
  let v1567 : BitVec 32 := Scalar.addi c0_i32_510 v1566
  v1567.toNat
def k0_dev6 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_626 : BitVec 32 := 2#32
  let v1878 : BitVec 32 := Scalar.xori v2 c2_i32_626
  let c1_i32_630 : BitVec 32 := 1#32
  let v1879 : BitVec 32 := Scalar.muli v1878 c1_i32_630
  let v1880 : BitVec 32 := Scalar.addi c0_i32_631 v1879
  v1880.toNat
def k0_dev7 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_657 : BitVec 32 := 1#32
  let v1911 : BitVec 32 := Scalar.xori v2 c1_i32_657
  let c1_i32_660 : BitVec 32 := 1#32
  let v1914 : BitVec 32 := Scalar.muli v1911 c1_i32_660
  let v1915 : BitVec 32 := Scalar.addi c0_i32_661 v1914
  v1915.toNat
def k0_dev8 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_657 : BitVec 32 := 1#32
  let v1911 : BitVec 32 := Scalar.xori v2 c1_i32_657
  let c1_i32_668 : BitVec 32 := 1#32
  let v1918 : BitVec 32 := Scalar.muli v1911 c1_i32_668
  let v1919 : BitVec 32 := Scalar.addi c0_i32_669 v1918
  v1919.toNat
def k0_dev9 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_785 : BitVec 32 := 4#32
  let v2230 : BitVec 32 := Scalar.xori v2 c4_i32_785
  let c1_i32_787 : BitVec 32 := 1#32
  let v2233 : BitVec 32 := Scalar.muli v2230 c1_i32_787
  let v2234 : BitVec 32 := Scalar.addi c0_i32_788 v2233
  v2234.toNat
def k0_dev10 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_785 : BitVec 32 := 4#32
  let v2230 : BitVec 32 := Scalar.xori v2 c4_i32_785
  let c1_i32_795 : BitVec 32 := 1#32
  let v2237 : BitVec 32 := Scalar.muli v2230 c1_i32_795
  let v2238 : BitVec 32 := Scalar.addi c0_i32_796 v2237
  v2238.toNat
def k0_dev11 (d0 : Dev nD) : Nat :=
  let c0_i32_827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_823 : BitVec 32 := 2#32
  let v2269 : BitVec 32 := Scalar.xori v2 c2_i32_823
  let c1_i32_826 : BitVec 32 := 1#32
  let v2272 : BitVec 32 := Scalar.muli v2269 c1_i32_826
  let v2273 : BitVec 32 := Scalar.addi c0_i32_827 v2272
  v2273.toNat
def k0_dev12 (d0 : Dev nD) : Nat :=
  let c0_i32_835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_823 : BitVec 32 := 2#32
  let v2269 : BitVec 32 := Scalar.xori v2 c2_i32_823
  let c1_i32_834 : BitVec 32 := 1#32
  let v2276 : BitVec 32 := Scalar.muli v2269 c1_i32_834
  let v2277 : BitVec 32 := Scalar.addi c0_i32_835 v2276
  v2277.toNat
def k0_dev13 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_862 : BitVec 32 := 1#32
  let v2308 : BitVec 32 := Scalar.xori v2 c1_i32_862
  let c1_i32_864 : BitVec 32 := 1#32
  let v2311 : BitVec 32 := Scalar.muli v2308 c1_i32_864
  let v2312 : BitVec 32 := Scalar.addi c0_i32_865 v2311
  v2312.toNat
def k0_dev14 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_862 : BitVec 32 := 1#32
  let v2308 : BitVec 32 := Scalar.xori v2 c1_i32_862
  let c1_i32_872 : BitVec 32 := 1#32
  let v2315 : BitVec 32 := Scalar.muli v2308 c1_i32_872
  let v2316 : BitVec 32 := Scalar.addi c0_i32_873 v2315
  v2316.toNat
def k0_dev15 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_989 : BitVec 32 := 8#32
  let v2627 : BitVec 32 := Scalar.xori v2 c8_i32_989
  let c1_i32_991 : BitVec 32 := 1#32
  let v2630 : BitVec 32 := Scalar.muli v2627 c1_i32_991
  let v2631 : BitVec 32 := Scalar.addi c0_i32_992 v2630
  v2631.toNat
def k0_dev16 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_989 : BitVec 32 := 8#32
  let v2627 : BitVec 32 := Scalar.xori v2 c8_i32_989
  let c1_i32_999 : BitVec 32 := 1#32
  let v2634 : BitVec 32 := Scalar.muli v2627 c1_i32_999
  let v2635 : BitVec 32 := Scalar.addi c0_i32_1000 v2634
  v2635.toNat
def k0_dev17 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1027 : BitVec 32 := 4#32
  let v2666 : BitVec 32 := Scalar.xori v2 c4_i32_1027
  let c1_i32_1029 : BitVec 32 := 1#32
  let v2669 : BitVec 32 := Scalar.muli v2666 c1_i32_1029
  let v2670 : BitVec 32 := Scalar.addi c0_i32_1030 v2669
  v2670.toNat
def k0_dev18 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1027 : BitVec 32 := 4#32
  let v2666 : BitVec 32 := Scalar.xori v2 c4_i32_1027
  let c1_i32_1037 : BitVec 32 := 1#32
  let v2673 : BitVec 32 := Scalar.muli v2666 c1_i32_1037
  let v2674 : BitVec 32 := Scalar.addi c0_i32_1038 v2673
  v2674.toNat
def k0_dev19 (d0 : Dev nD) : Nat :=
  let c0_i32_1069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1065 : BitVec 32 := 2#32
  let v2705 : BitVec 32 := Scalar.xori v2 c2_i32_1065
  let c1_i32_1068 : BitVec 32 := 1#32
  let v2708 : BitVec 32 := Scalar.muli v2705 c1_i32_1068
  let v2709 : BitVec 32 := Scalar.addi c0_i32_1069 v2708
  v2709.toNat
def k0_dev20 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1065 : BitVec 32 := 2#32
  let v2705 : BitVec 32 := Scalar.xori v2 c2_i32_1065
  let c1_i32_1076 : BitVec 32 := 1#32
  let v2712 : BitVec 32 := Scalar.muli v2705 c1_i32_1076
  let v2713 : BitVec 32 := Scalar.addi c0_i32_1077 v2712
  v2713.toNat
def k0_dev21 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1104 : BitVec 32 := 1#32
  let v2744 : BitVec 32 := Scalar.xori v2 c1_i32_1104
  let c1_i32_1106 : BitVec 32 := 1#32
  let v2747 : BitVec 32 := Scalar.muli v2744 c1_i32_1106
  let v2748 : BitVec 32 := Scalar.addi c0_i32_1107 v2747
  v2748.toNat
def k0_dev22 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1104 : BitVec 32 := 1#32
  let v2744 : BitVec 32 := Scalar.xori v2 c1_i32_1104
  let c1_i32_1114 : BitVec 32 := 1#32
  let v2751 : BitVec 32 := Scalar.muli v2744 c1_i32_1114
  let v2752 : BitVec 32 := Scalar.addi c0_i32_1115 v2751
  v2752.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x256 : Shape := ⟨2, ![16384, 256]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .f32⟩
  | .hbm, ⟨2, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Ideal.Program.lean ====
/-
The kernel's body as a short program over a list of 105 network steps.

The printed body is straight-line code cut into windows. Here the same operations are named once — a step inside
a block (`stageProg`), an exchange round with a partner device (`roundProg`) — and the body is the barrier, the copy
of the argument block, the steps of `items` in order, and the final conversion (`bodyProg`). `body_eq` states that the
printed body IS this program.
-/
module

public import proofs.«01_k».proof.Proof.Gen.KernelIdeal
public import Idealize.ShloMosaic.Lib.Pipeline.Regions

@[expose] public section

noncomputable section

namespace Cert.KernelIdeal.Sorter

open Idealize.ShloMosaic Idealize.SL.Sem Cert.KernelIdeal Cert.KernelIdeal.Gen

variable {F : FTy → Type} [FloatOps F]

/-! ## The steps of the network -/

/-- A step of the network: at level `a` (runs of `2 ^ (a + 1)`) the comparison at distance `2 ^ b` inside a block of
    1024 rows, or the exchange round `r` between two devices. -/
inductive Item
  | loc (a : ℕ) (b : Fin 10)
  | rem (r : Fin 10)
deriving DecidableEq

/-- Round `r` compares device `c` with device `c xor 2 ^ jbE r`. -/
def jbE (r : Fin 10) : ℕ := match r.val with
  | 1 => 1 | 3 => 2 | 4 => 1 | 6 => 3 | 7 => 2 | 8 => 1 | _ => 0

/-- Round `r` sorts runs of `2 ^ kbE r` devices, alternating in direction. -/
def kbE (r : Fin 10) : ℕ := match r.val with
  | 0 => 1 | 1 => 2 | 2 => 2 | 3 => 3 | 4 => 3 | 5 => 3 | _ => 4

/-- The 105 steps of the kernel, in program order, one line per level. -/
def items : List Item :=
  [.loc 0 0,
   .loc 1 1, .loc 1 0,
   .loc 2 2, .loc 2 1, .loc 2 0,
   .loc 3 3, .loc 3 2, .loc 3 1, .loc 3 0,
   .loc 4 4, .loc 4 3, .loc 4 2, .loc 4 1, .loc 4 0,
   .loc 5 5, .loc 5 4, .loc 5 3, .loc 5 2, .loc 5 1, .loc 5 0,
   .loc 6 6, .loc 6 5, .loc 6 4, .loc 6 3, .loc 6 2, .loc 6 1, .loc 6 0,
   .loc 7 7, .loc 7 6, .loc 7 5, .loc 7 4, .loc 7 3, .loc 7 2, .loc 7 1, .loc 7 0,
   .loc 8 8, .loc 8 7, .loc 8 6, .loc 8 5, .loc 8 4, .loc 8 3, .loc 8 2, .loc 8 1, .loc 8 0,
   .loc 9 9, .loc 9 8, .loc 9 7, .loc 9 6, .loc 9 5, .loc 9 4, .loc 9 3, .loc 9 2, .loc 9 1, .loc 9 0,
   .rem 0, .loc 10 9, .loc 10 8, .loc 10 7, .loc 10 6, .loc 10 5, .loc 10 4, .loc 10 3, .loc 10 2, .loc 10 1, .loc 10 0,
   .rem 1, .rem 2, .loc 11 9, .loc 11 8, .loc 11 7, .loc 11 6, .loc 11 5, .loc 11 4, .loc 11 3, .loc 11 2, .loc 11 1, .loc 11 0,
   .rem 3, .rem 4, .rem 5, .loc 12 9, .loc 12 8, .loc 12 7, .loc 12 6, .loc 12 5, .loc 12 4, .loc 12 3, .loc 12 2, .loc 12 1, .loc 12 0,
   .rem 6, .rem 7, .rem 8, .rem 9, .loc 13 9, .loc 13 8, .loc 13 7, .loc 13 6, .loc 13 5, .loc 13 4, .loc 13 3, .loc 13 2, .loc 13 1, .loc 13 0]

/-! ## The values -/

/-- The number of the executing device as the kernel computes it. -/
def meW (d : Dev nD) : BitVec 32 := Scalar.remsi (Scalar.divsi (Dev.word d) 1#32) 16#32

/-- The global row numbers of device `d`'s block. -/
def rowsOf (d : Dev nD) : IVec S1024x1 32 :=
  addi (iota .tc S1024x1 32 [0] iota_S1024x1_d0_w32) (broadcast S1024x1 (Scalar.muli (meW d) 1024#32))

abbrev lowS (b : Fin 10) : Shape := ⟨2, ![2 ^ b.val, 256]⟩
abbrev highS (b : Fin 10) : Shape := ⟨2, ![1024 - 2 ^ b.val, 256]⟩

theorem slices_bot : ∀ b : Fin 10, S1024x256.Slices ![1024 - 2 ^ b.val, 0] (lowS b) := by decide
theorem slices_init : ∀ b : Fin 10, S1024x256.Slices ![0, 0] (highS b) := by decide
theorem slices_tail : ∀ b : Fin 10, S1024x256.Slices ![2 ^ b.val, 0] (highS b) := by decide
theorem slices_top : ∀ b : Fin 10, S1024x256.Slices ![0, 0] (lowS b) := by decide
theorem concat_down : ∀ b : Fin 10, Shape.Concatenates [lowS b, highS b] S1024x256 0 := by decide
theorem concat_up : ∀ b : Fin 10, Shape.Concatenates [highS b, lowS b] S1024x256 0 := by decide

/-- The rows rotated down by `2 ^ b`: row `i` holds row `i - 2 ^ b`. -/
def rollDown (b : Fin 10) (v : FVec F S1024x256 .bf16) : FVec F S1024x256 .bf16 :=
  concatenate S1024x256 0 [⟨lowS b, extractStridedSlice (lowS b) ![1024 - 2 ^ b.val, 0] v (slices_bot b)⟩,
    ⟨highS b, extractStridedSlice (highS b) ![0, 0] v (slices_init b)⟩] (concat_down b)

/-- The rows rotated up by `2 ^ b`: row `i` holds row `i + 2 ^ b`. -/
def rollUp (b : Fin 10) (v : FVec F S1024x256 .bf16) : FVec F S1024x256 .bf16 :=
  concatenate S1024x256 0 [⟨highS b, extractStridedSlice (highS b) ![2 ^ b.val, 0] v (slices_tail b)⟩,
    ⟨lowS b, extractStridedSlice (lowS b) ![0, 0] v (slices_top b)⟩] (concat_up b)

/-- Which rows have bit `e` of their number clear. -/
def bitClear (rows : IVec S1024x1 32) (e : ℕ) : IVec S1024x1 1 :=
  cmpi .eq (andi rows (broadcast S1024x1 (BitVec.ofNat 32 (2 ^ e)))) (broadcast S1024x1 0#32)

/-- A row mask spread over the columns. -/
def spread (m : IVec S1024x1 1) : IVec S1024x256 1 :=
  broadcastTo S1024x256 (shapeCast S1024x1 m shapeCasts_S1024x1_S1024x1) broadcasts_S1024x1_S1024x256

/-- Each row's partner row at distance `2 ^ b`. -/
def partnerVal (rows : IVec S1024x1 32) (b : Fin 10) (v : FVec F S1024x256 .bf16) : FVec F S1024x256 .bf16 :=
  select (spread (bitClear rows b.val)) (rollUp b v) (rollDown b v)

/-- The block after a step inside it: the smaller or the larger of each row and its partner. -/
def stageVal (rows : IVec S1024x1 32) (a : ℕ) (b : Fin 10) (v : FVec F S1024x256 .bf16) : FVec F S1024x256 .bf16 :=
  shapeCast S1024x256
    (select (spread (xori (xori (bitClear rows b.val) (bitClear rows (a + 1))) (constantI S1024x1 1 1#1)))
      (minimumf v (partnerVal rows b v)) (maximumf v (partnerVal rows b v)))
    shapeCasts_S1024x256_S1024x256

/-- Whether device `d` keeps the smaller values in round `r`. -/
def takeMinW (d : Dev nD) (r : Fin 10) : BitVec 1 :=
  Scalar.xori (Scalar.cmpi .ne (Scalar.andi (meW d) (BitVec.ofNat 32 (2 ^ jbE r))) 0#32)
    (Scalar.cmpi .eq (Scalar.andi (meW d) (BitVec.ofNat 32 (2 ^ kbE r))) 0#32)

/-- The block after round `r`, from the device's own block and the slot the partner's block landed in. -/
def roundVal (d : Dev nD) (r : Fin 10) (v : FVec F S1024x256 .bf16) (w : Vec F S1x1024x256 .bf16) : FVec F S1024x256 .bf16 :=
  shapeCast S1024x256
    (Scalar.select (takeMinW d r) (minimumf v (shapeCast S1024x256 w shapeCasts_S1x1024x256_S1024x256))
      (maximumf v (shapeCast S1024x256 w shapeCasts_S1x1024x256_S1024x256)))
    shapeCasts_S1024x256_S1024x256

/-! ## The partner device -/

/-- The device a signal or a transfer addresses: the executing device's number with one bit flipped, as a word. -/
def devW (w : BitVec 32) (d : Dev nD) : ℕ :=
  (Scalar.addi 0#32 (Scalar.muli (Scalar.xori (meW d) w) 1#32)).toNat

theorem devW_lt : ∀ (e : Fin 4) (d : Dev nD), devW (BitVec.ofNat 32 (2 ^ e.val)) d < nD := by decide +kernel

theorem devW_lt' : ∀ (r : Fin 10) (d : Dev nD), devW (BitVec.ofNat 32 (2 ^ jbE r)) d < nD := by decide +kernel

/-- The device whose number differs from `d`'s in bit `e`. -/
def nbr (e : Fin 4) (d : Dev nD) : Dev nD := ⟨devW (BitVec.ofNat 32 (2 ^ e.val)) d, devW_lt e d⟩
/-- Device `d`'s partner in round `r`. -/
def peer (r : Fin 10) (d : Dev nD) : Dev nD := ⟨devW (BitVec.ofNat 32 (2 ^ jbE r)) d, devW_lt' r d⟩

/-! ## The program -/

/-- The effects of the kernel's body. -/
abbrev Eff (F : FTy → Type) : Type → Type := TpuEff nD τ sig (Elt F) Λ₀ .tc

abbrev blkR : Rect S1024x256 := Rect.unit (s := S1024x256) ![0, 0] S1024x256.size inb_S1024x256_S1024x256_0_0

theorem inb_slot : ∀ r : Fin 10, ∀ a, (![r.val % 2, 0, 0] : Fin 3 → Nat) a + S1x1024x256.size a ≤ S2x1024x256.size a := by decide
theorem inb_sem : ∀ r : Fin 10, ∀ a, (![r.val] : Fin 1 → Nat) a + S1.size a ≤ S10.size a := by decide
/-- The slot of the landing buffer that round `r` uses. -/
abbrev slotR (r : Fin 10) : Rect S2x1024x256 := Rect.unit (s := S2x1024x256) ![r.val % 2, 0, 0] S1x1024x256.size (inb_slot r)
theorem words_slot : ∀ r : Fin 10, (slotR r).WholeWords (EltTy.packing .bf16) := by decide

section Prog

variable (arg0 : Memref sig .tc .vmem S1024x256 .bf16) (harg0 : arg0.IsWhole)
  (arg1 : Memref sig .tc .vmem S1024x256 .f32) (harg1 : arg1.IsWhole)
  (arg2 : Memref sig .tc .vmem S1024x256 .bf16) (harg2 : arg2.IsWhole)
  (arg3 : Memref sig .tc .vmem S2x1024x256 .bf16) (harg3 : arg3.IsWhole)
  (arg4 : DmaSems sig S10) (arg5 : DmaSems sig S10) (arg6 : Sems sig S10)

/-- Read a whole block. -/
def ld : Prog (Eff F) (Vec F S1024x256 .bf16) :=
  Prog.lift (.load arg2 blkR.toLoadRect (View.loadsAt_vmem h_S1024x256))

/-- Write a whole block. -/
def st (v : FVec F S1024x256 .bf16) : Prog (Eff F) PUnit :=
  Prog.lift (.store arg2 blkR v Finset.univ
    (View.stores_vmem h_S1024x256 (harg2.storeExact_slice rfl _ packedbf16_S1024x256_S1024x256_0_0) (fun _ => rfl)) (.inl rfl))

/-- Slot `r % 2` of the landing buffer. -/
abbrev slotOf (r : Fin 10) : Memref sig .tc .vmem S1024x256 .bf16 :=
  (arg3.slice (slotR r) (fun _ => rfl)).squeeze S1024x256 squeezes_S1x1024x256_S1024x256

/-- Semaphore `r` of an array of ten. -/
abbrev dmaAt (a : DmaSems sig S10) (r : Fin 10) : DmaSem sig :=
  ((a.slice (Rect.unit (s := S10) ![r.val] S1.size (inb_sem r))).squeeze S_ squeezes_S1_S_).sem
abbrev semAt (a : Sems sig S10) (r : Fin 10) : Sem sig :=
  ((a.slice (Rect.unit (s := S10) ![r.val] S1.size (inb_sem r))).squeeze S_ squeezes_S1_S_).sem

/-- The barrier: one unit to each of the four neighbours, then the wait for four. -/
def barrierProg (d : Dev nD) : Prog (Eff F) PUnit := do
  semSignalWord (nbr 0 d) (SemArray.scalar (sig.barrier 0 rfl) : Sems sig S_).sem 1#32
  semSignalWord (nbr 1 d) (SemArray.scalar (sig.barrier 0 rfl) : Sems sig S_).sem 1#32
  semSignalWord (nbr 2 d) (SemArray.scalar (sig.barrier 0 rfl) : Sems sig S_).sem 1#32
  semSignalWord (nbr 3 d) (SemArray.scalar (sig.barrier 0 rfl) : Sems sig S_).sem 1#32
  semWaitWord (SemArray.scalar (sig.barrier 0 rfl) : Sems sig S_).sem 4#32

/-- A step inside the block. -/
def stageProg (d : Dev nD) (a : ℕ) (b : Fin 10) : Prog (Eff F) PUnit := do
  let v ← ld arg2
  let _ ← ld arg2
  st arg2 harg2 (stageVal (rowsOf d) a b v)

/-- The handshake of round `r`: the partner's slot is free. -/
def readyProg (d : Dev nD) (r : Fin 10) : Prog (Eff F) PUnit := do
  semSignalWord (peer r d) (semAt arg6 r) 1#32
  semWaitWord (semAt arg6 r) 1#32

/-- The exchange of round `r`: the copy into the partner's slot, the waits for both ends, the comparison. -/
def exchProg (d : Dev nD) (r : Fin 10) : Prog (Eff F) PUnit := do
  Prog.lift (.enqueueDma arg2 (.remote (Dev.tc (peer r d)) (slotOf arg3 r) (.dma (dmaAt arg4 r))) (.dma (dmaAt arg5 r))
    harg2.wordExact ((harg3.wordExact_slice rfl _ (words_slot r)).reshape _ _) ⟨⟨rfl, Or.inl rfl⟩, trivial⟩)
  Prog.lift (.waitDma2 (dmaAt arg4 r) (slotOf arg3 r) arg2 ((harg3.wordExact_slice rfl _ (words_slot r)).reshape _ _) harg2.wordExact)
  Prog.lift (.waitDma2 (dmaAt arg5 r) arg2 (slotOf arg3 r) harg2.wordExact ((harg3.wordExact_slice rfl _ (words_slot r)).reshape _ _))
  let v ← ld arg2
  let w ← Prog.lift (.load arg3 (slotR r).toLoadRect (View.loadsAt_vmem h_S1x1024x256))
  let _ ← ld arg2
  st arg2 harg2 (roundVal d r v w)

/-- Round `r`: from the third round on the handshake comes first. -/
def roundProg (d : Dev nD) (r : Fin 10) : Prog (Eff F) PUnit :=
  match decide (2 ≤ r.val) with
  | true => do
    readyProg arg6 d r
    exchProg arg2 harg2 arg3 harg3 arg4 arg5 d r
  | false => exchProg arg2 harg2 arg3 harg3 arg4 arg5 d r

/-- One step. -/
def itemProg (d : Dev nD) : Item → Prog (Eff F) PUnit
  | .loc a b => stageProg arg2 harg2 d a b
  | .rem r => roundProg arg2 harg2 arg3 harg3 arg4 arg5 arg6 d r

/-- The steps of a list, in order. -/
def runItems (d : Dev nD) : List Item → Prog (Eff F) PUnit
  | [] => pure ⟨⟩
  | i :: is => do
    itemProg arg2 harg2 arg3 harg3 arg4 arg5 arg6 d i
    runItems d is

/-- The argument block copied into the working block. -/
def copyIn : Prog (Eff F) PUnit := do
  let v ← ld arg0
  let _ ← ld arg2
  st arg2 harg2 (shapeCast S1024x256 (shapeCast S1024x256 v shapeCasts_S1024x256_S1024x256) shapeCasts_S1024x256_S1024x256)

/-- The working block converted into the result block. -/
def copyOut : Prog (Eff F) PUnit := do
  let v ← ld (F := F) arg2
  let _ ← Prog.lift (.load arg1 blkR.toLoadRect (View.loadsAt_vmem h_S1024x256))
  Prog.lift (.store arg1 blkR (extf .f32 v bitsLt_bf16_f32) Finset.univ (View.stores_vmem_bits_univ h_S1024x256 rfl) (.inl rfl))

/-- The whole body. -/
def bodyProg : Prog (Eff F) PUnit := do
  let d ← Prog.lift .deviceId
  barrierProg d
  copyIn arg0 arg2 harg2
  runItems arg2 harg2 arg3 harg3 arg4 arg5 arg6 d items
  copyOut arg1 arg2

set_option maxRecDepth 65536 in
/-- The printed body is `bodyProg`. -/
theorem body_eq : cc0_body (F := F) arg0 harg0 arg1 harg1 arg2 harg2 arg3 harg3 arg4 arg5 arg6
    = bodyProg arg0 arg1 arg2 harg2 arg3 harg3 arg4 arg5 arg6 := by
  chain_rfl

end Prog

end Cert.KernelIdeal.Sorter

end
-- ==== Proof.Ideal.Protocol.lean ====
/-
The exchange protocol: the cells, who pays what into them, and what each payment hands over.

Every semaphore of the kernel is used in one round. Device `c` receives
* on its barrier cell one unit from each of the four devices whose number differs from `c`'s in one bit; two of them
  hand over the slots of their landing buffers that `c`'s first two transfers write;
* on its ready cell of round `r ≥ 2` one unit from its partner, which hands over its slot `r % 2`;
* on its receive cell of round `r` its partner's transfer, which hands over `c`'s own slot holding the partner's block;
* on its send cell of round `r` its own transfer, which hands the working block back.

The contents are described by the family of the devices' blocks after the first `t` steps (`after`).
-/
module

public import proofs.«01_k».proof.Proof.Ideal.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Sorter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The family of blocks -/

/-- A device's working block. -/
abbrev Blk (F : FTy → Type) : Type := FVec F S1024x256 .bf16

/-- A round's comparison of a block with the partner's. -/
def combine (d : Dev nD) (r : Fin 10) (v u : Blk F) : Blk F :=
  shapeCast S1024x256 (Scalar.select (takeMinW d r) (minimumf v u) (maximumf v u)) shapeCasts_S1024x256_S1024x256

theorem roundVal_eq (d : Dev nD) (r : Fin 10) (v : Blk F) (w : Vec F S1x1024x256 .bf16) :
    roundVal d r v w = combine d r v (shapeCast S1024x256 w shapeCasts_S1x1024x256_S1024x256) := rfl

/-- One step on every device's block at once. -/
def gstep (i : Item) (X : Dev nD → Blk F) (c : Dev nD) : Blk F := match i with
  | .loc a b => stageVal (rowsOf c) a b (X c)
  | .rem r => combine c r (X c) (X (peer r c))

/-- The blocks after the first `t` steps. -/
def after (X : Dev nD → Blk F) (t : ℕ) : Dev nD → Blk F := (items.take t).foldl (fun Y i => gstep i Y) X

/-- The number of steps before round `r`. -/
def tOf (r : Fin 10) : ℕ := items.idxOf (.rem r)

/-- The number of rounds among the first `t` steps. -/
def nOf (t : ℕ) : ℕ := ((items.take t).filter fun i => match i with | .rem _ => true | .loc _ _ => false).length

theorem items_length : items.length = 105 := by decide

theorem after_zero (X : Dev nD → Blk F) : after X 0 = X := rfl

theorem after_succ (X : Dev nD → Blk F) (t : ℕ) (ht : t < items.length) : after X (t + 1) = gstep items[t] (after X t) := by
  unfold after
  rw [List.take_add_one, List.getElem?_eq_getElem ht, Option.toList_some, List.foldl_append]; rfl

/-- The bookkeeping of the rounds: step `t` is round `r` exactly at `t = tOf r`, the `r`-th round. -/
def stepOk (t : ℕ) (i : Item) : Bool := match i with
  | .rem r => tOf r == t && nOf t == r.val && nOf (t + 1) == r.val + 1
  | .loc _ _ => nOf (t + 1) == nOf t

theorem steps_ok : ∀ t : Fin items.length, stepOk t.val items[t.val] = true := by decide +kernel
theorem nOf_zero : nOf 0 = 0 := rfl
theorem nOf_end : nOf 105 = 10 := by decide +kernel

/-! ## The neighbours -/

theorem nbr_nbr : ∀ (e : Fin 4) (c : Dev nD), nbr e (nbr e c) = c := by decide +kernel
theorem peer_peer : ∀ (r : Fin 10) (c : Dev nD), peer r (peer r c) = c := by decide +kernel

def nbrEquiv (e : Fin 4) : Dev nD ≃ Dev nD := ⟨nbr e, nbr e, nbr_nbr e, nbr_nbr e⟩
def peerEquiv (r : Fin 10) : Dev nD ≃ Dev nD := ⟨peer r, peer r, peer_peer r, peer_peer r⟩

theorem peer_zero (c : Dev nD) : peer 0 c = nbr 0 c := rfl
theorem peer_one (c : Dev nD) : peer 1 c = nbr 1 c := rfl

/-! ## The resource algebra: the pipeline library's copy and the exchange's, whose duties are named by `Fin 4` -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs and cells -/

abbrev xM : Memref sig .tc .vmem S1024x256 .bf16 := Memref.whole cc0_stg0_0
abbrev oM : Memref sig .tc .vmem S1024x256 .f32 := Memref.whole cc0_stg1_0
abbrev bM : Memref sig .tc .vmem S1024x256 .bf16 := Memref.whole cc0_scratch0
abbrev lM : Memref sig .tc .vmem S2x1024x256 .bf16 := Memref.whole cc0_scratch1
/-- The slot of round `r`. -/
abbrev slotM (r : Fin 10) : Memref sig .tc .vmem S1024x256 .bf16 := slotOf lM r

abbrev barS : Sem sig := (SemArray.scalar (sig.barrier 0 rfl) : Sems sig S_).sem

/-- The kernel's own semaphores: kind 0 ready, 1 send, 2 receive, one per round. -/
abbrev osem (k : Fin 3 × Fin 10) : SemLoc sig := match k.1 with
  | 0 => .reg (semAt cc0_scratch4 k.2)
  | 1 => .dma (dmaAt cc0_scratch2 k.2)
  | 2 => .dma (dmaAt cc0_scratch3 k.2)

/-- All semaphores of the protocol: the barrier and the own ones. -/
abbrev Ck : Type := Option (Fin 3 × Fin 10)
abbrev csem : Ck → SemLoc sig
  | none => .reg barS
  | some k => osem k

abbrev kcell (c : Dev nD) (k : Ck) : GSem nD τ sig := ((c : Thread nD τ), csem k)
abbrev barCell (c : Dev nD) : GSem nD τ sig := ((c : Thread nD τ), .reg barS)
abbrev readyCell (c : Dev nD) (r : Fin 10) : GSem nD τ sig := ((c : Thread nD τ), .reg (semAt cc0_scratch4 r))
abbrev sendCell (c : Dev nD) (r : Fin 10) : GSem nD τ sig := ((c : Thread nD τ), .dma (dmaAt cc0_scratch2 r))
abbrev recvCell (c : Dev nD) (r : Fin 10) : GSem nD τ sig := ((c : Thread nD τ), .dma (dmaAt cc0_scratch3 r))

/-- Which of the protocol's semaphores a semaphore is, read off its number. -/
def decode : SemLoc sig → Option Ck
  | .reg i => if i.val = 10 then some none else if h : i.val < 10 then some (some (0, ⟨i.val, h⟩)) else none
  | .dma i => if i.val < 2 then none else if h : i.val - 2 < 10 then some (some (1, ⟨i.val - 2, h⟩))
      else if h : i.val - 12 < 10 then some (some (2, ⟨i.val - 12, h⟩)) else none

theorem decode_csem : ∀ k : Ck, decode (csem k) = some k := by decide +kernel

theorem csem_injective : Function.Injective csem := fun k k' h =>
  Option.some.inj ((decode_csem k).symm.trans ((congrArg decode h).trans (decode_csem k')))

theorem kcell_inj {c c' : Dev nD} {k k' : Ck} (h : kcell c k = kcell c' k') : c = c' ∧ k = k' :=
  ⟨congrArg (fun g : GSem nD τ sig => g.1.1) h, csem_injective (congrArg Prod.snd h)⟩

/-! ## The slots -/

theorem slotM_set (r : Fin 10) : (slotM r).view.set = Finset.univ.filter fun i : S2x1024x256.Idx => (i 0).val = r.val % 2 := by
  rw [show (slotM r).view.set = (lM.slice (slotR r) (fun _ => rfl)).view.set from
      Memref.set_view_squeeze (lM.slice (slotR r) (fun _ => rfl)) squeezes_S1x1024x256_S1024x256,
    show (lM.slice (slotR r) (fun _ => rfl)).view.set = (slotR r).set from View.set_slice_whole _ _]
  ext i
  rw [Finset.mem_filter, Rect.mem_set_unit]
  constructor
  · intro h
    have h0 := h 0
    refine ⟨Finset.mem_univ _, ?_⟩
    have h1 : (r.val % 2) ≤ (i 0).val ∧ (i 0).val < r.val % 2 + 1 := h0
    omega
  · rintro ⟨-, h⟩ a
    have h1 := (i 1).isLt
    have h2 := (i 2).isLt
    fin_cases a
    · show r.val % 2 ≤ (i 0).val ∧ (i 0).val < r.val % 2 + 1
      omega
    · show 0 ≤ (i 1).val ∧ (i 1).val < 0 + 1024
      exact ⟨Nat.zero_le _, by simpa using h1⟩
    · show 0 ≤ (i 2).val ∧ (i 2).val < 0 + 256
      exact ⟨Nat.zero_le _, by simpa using h2⟩

/-- The elements of slot `p`. -/
def slotSet (p : ℕ) : Finset S2x1024x256.Idx := Finset.univ.filter fun i => (i 0).val = p

theorem slotSet_disjoint : Disjoint (slotSet 0) (slotSet 1) := by
  rw [Finset.disjoint_left]
  intro i h0 h1
  have := (Finset.mem_filter.mp h0).2
  have := (Finset.mem_filter.mp h1).2
  omega

theorem slotSet_union : slotSet 0 ∪ slotSet 1 = Finset.univ := by
  refine Finset.eq_univ_iff_forall.mpr fun i => ?_
  have h : (i 0).val < 2 := (i 0).isLt
  rcases Nat.lt_or_ge (i 0).val 1 with h0 | h0
  · exact Finset.mem_union_left _ (Finset.mem_filter.mpr ⟨Finset.mem_univ _, by omega⟩)
  · exact Finset.mem_union_right _ (Finset.mem_filter.mpr ⟨Finset.mem_univ _, by omega⟩)

/-- Slot `p` of device `c`'s landing buffer, at some contents. -/
def slotAny (c : Dev nD) (p : ℕ) : sProp 𝕄 :=
  iprop(∃ f : Buf (Elt F) ((c : Thread nD τ).loc cc0_scratch1), ((c : Thread nD τ).loc cc0_scratch1) ↦[slotSet p]{fullShare} f)

/-- The slot of round `r` on device `c`, holding the block `v`. -/
def slotAt (c : Dev nD) (r : Fin 10) (v : Blk F) : sProp 𝕄 :=
  iprop(∃ f : Buf (Elt F) ((slotM r).view.loc (c : Thread nD τ)), ⌜(slotM r).view.read (Elt F) f = v⌝
    ∗ ((slotM r).view.loc (c : Thread nD τ) ↦[(slotM r).view.set]{fullShare} f))

/-- The working block of device `c`, holding `v`. -/
def blkAt (c : Dev nD) (v : Blk F) : sProp 𝕄 :=
  bM.view.loc (c : Thread nD τ) ↦[bM.view.set]{fullShare} (v : Buf (Elt F) (bM.view.loc (c : Thread nD τ)))

omit [FloatOps F] in
instance slotAny_storable (c : Dev nD) (p : ℕ) : BI.Storable (upEmb : UEmb _ 𝕄) (slotAny (F := F) c p) := by
  unfold slotAny; infer_instance
omit [FloatOps F] in
instance slotAt_storable (c : Dev nD) (r : Fin 10) (v : Blk F) : BI.Storable (upEmb : UEmb _ 𝕄) (slotAt c r v) := by
  unfold slotAt; infer_instance
omit [FloatOps F] in
instance blkAt_storable (c : Dev nD) (v : Blk F) : BI.Storable (upEmb : UEmb _ 𝕄) (blkAt c v) := by
  unfold blkAt; infer_instance

/-! ## The schedule -/

/-- The credit of one block. -/
abbrev N : ℕ := bM.view.dmaCredit
theorem N_pos : 0 < N := View.dmaCredit_pos _ (by decide)

/-- The units of round `r`'s handshake: the first two rounds have none. -/
def rdy (r : Fin 10) : ℕ := if 2 ≤ r.val then 1 else 0

/-- The duties of a semaphore, by kind. -/
def dut : Ck → Finset (Fin 4)
  | none => Finset.univ
  | some (0, r) => if 2 ≤ r.val then {0} else ∅
  | some (1, _) => {0}
  | some (2, _) => {0}

/-- The units of a duty, by kind. -/
def amt : Ck → ℕ
  | none => 1
  | some (0, _) => 1
  | some (1, _) => N
  | some (2, _) => N

theorem amt_pos (k : Ck) : 0 < amt k := by
  rcases k with _ | ⟨k, r⟩
  · exact Nat.one_pos
  · fin_cases k
    · exact Nat.one_pos
    · exact N_pos
    · exact N_pos

variable (X : Dev nD → Blk F)

/-- What a duty of device `c`'s semaphore hands over. -/
def pay (c : Dev nD) : Ck → Fin 4 → sProp 𝕄
  | none, e => if e.val < 2 then slotAny (nbr e c) e.val else iprop(emp)
  | some (0, r), _ => slotAny (peer r c) (r.val % 2)
  | some (1, r), _ => blkAt c (after X (tOf r) c)
  | some (2, r), _ => slotAt c r (after X (tOf r) (peer r c))

omit [FloatOps F] in
theorem emp_storable : BI.Storable (upEmb : UEmb _ 𝕄) (iprop(emp) : sProp 𝕄) := inferInstance

instance pay_storable (c : Dev nD) (k : Ck) (e : Fin 4) : BI.Storable (upEmb : UEmb _ 𝕄) (pay X c k e) := by
  rcases k with _ | ⟨k, r⟩
  · show BI.Storable upEmb (if e.val < 2 then slotAny (nbr e c) e.val else iprop(emp))
    split <;> infer_instance
  · fin_cases k
    · exact slotAny_storable _ _
    · exact blkAt_storable _ _
    · exact slotAt_storable _ _ _

/-- The schedule: every protocol semaphore of every TensorCore has its duties in round 0. -/
def Rd : Rounds.Schedule (GSem nD τ sig) (Fin 4) 𝕄 where
  duties g r := if r = 0 ∧ g.1.2 = .tc then (decode g.2).elim ∅ dut else ∅
  unitless _ := False
  amount g _ _ := (decode g.2).elim 1 amt
  payload g _ d := (decode g.2).elim iprop(emp) fun k => pay X g.1.1 k d
  amount_pos g _ _ _ := by
    cases decode g.2 with
    | none => exact Nat.one_pos
    | some k => exact amt_pos k

instance Rd_storable (g : GSem nD τ sig) (r : ℕ) (d : Fin 4) : BI.Storable (upEmb : UEmb _ 𝕄) ((Rd X).payload g r d) := by
  show BI.Storable upEmb ((decode g.2).elim iprop(emp) fun k => pay X g.1.1 k d)
  cases decode g.2 with
  | none => exact emp_storable
  | some k => exact pay_storable X _ k d

theorem duties_eq (c : Dev nD) (k : Ck) : (Rd X).duties (kcell c k) 0 = dut k := by
  show (if 0 = 0 ∧ (kcell c k).1.2 = .tc then (decode (csem k)).elim ∅ dut else ∅) = dut k
  rw [if_pos ⟨rfl, rfl⟩, decode_csem]; rfl
theorem duties_later (g : GSem nD τ sig) : ∀ r, 1 ≤ r → (Rd X).duties g r = ∅ := fun r hr => if_neg fun h => by omega
theorem amount_eq (c : Dev nD) (k : Ck) (d : Fin 4) : (Rd X).amount (kcell c k) 0 d = amt k := by
  show (decode (csem k)).elim 1 amt = amt k
  rw [decode_csem]; rfl
theorem payload_eq (c : Dev nD) (k : Ck) (d : Fin 4) : (Rd X).payload (kcell c k) 0 d = pay X c k d := by
  show (decode (csem k)).elim iprop(emp) (fun k => pay X c k d) = pay X c k d
  rw [decode_csem]; rfl
theorem expect_eq (c : Dev nD) (k : Ck) : (Rd X).expect (kcell c k) 0 = (dut k).card * amt k := by
  unfold Schedule.expect Schedule.amountOf
  rw [duties_eq, Finset.sum_congr rfl fun d _ => amount_eq X c k d, Finset.sum_const, smul_eq_mul]

/-- A ready cell of the first two rounds has no duty at all. -/
theorem duties_unused (c : Dev nD) (r : Fin 10) (hr : ¬ 2 ≤ r.val) : ∀ n, 0 ≤ n → (Rd X).duties (readyCell c r) n = ∅ := by
  intro n _
  rcases Nat.eq_zero_or_pos n with rfl | hn
  · rw [show readyCell c r = kcell c (some (0, r)) from rfl, duties_eq]; exact if_neg hr
  · exact duties_later X _ n hn

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What the barrier's wait yields. -/
theorem rest_bar (c : Dev nD) : bigSep ((Rd X).duties (barCell c) 0 \ ∅) (fun d => (Rd X).payload (barCell c) 0 d)
    = iprop(slotAny (nbr 0 c) 0 ∗ slotAny (nbr 1 c) 1 ∗ emp ∗ emp) := by
  rw [Finset.sdiff_empty, show barCell c = kcell c none from rfl, duties_eq]
  rw [bigSep_congr fun d _ => payload_eq X c none d]
  exact bigSep_fin4 _

/-- What the wait on another cell with one duty yields. -/
theorem rest_one (c : Dev nD) (k : Ck) (hk : dut k = {0}) :
    bigSep ((Rd X).duties (kcell c k) 0 \ ∅) (fun d => (Rd X).payload (kcell c k) 0 d) = pay X c k 0 := by
  rw [Finset.sdiff_empty, duties_eq, hk, bigSep_singleton, payload_eq]

/-! ## What a device owes, and the levels -/

/-- The rounds from the `n`-th on. -/
def roundsFrom (n : ℕ) : List (Fin 10) := (List.finRange 10).drop n

theorem roundsFrom_cons : ∀ r : Fin 10, roundsFrom r.val = r :: roundsFrom (r.val + 1) := by decide
theorem roundsFrom_end : roundsFrom 10 = [] := by decide
theorem mem_roundsFrom : ∀ (n : Fin 11) (r : Fin 10), r ∈ roundsFrom n.val → n.val ≤ r.val := by decide

/-- What device `c` owes for the rounds of a list: its transfer's credit and the handshake's unit, to its partner. -/
def owedL (c : Dev nD) : List (Fin 10) → CellTallies nD τ sig Unit
  | [] => 0
  | r :: rs => owedL c rs + tallyAt (recvCell (peer r c) r) () N + tallyAt (readyCell (peer r c) r) () (rdy r)

/-- What device `c` owes at launch: all rounds and the four barrier units. -/
def O₀ (c : Dev nD) : CellTallies nD τ sig Unit :=
  owedL c (roundsFrom 0) + tallyAt (barCell (nbr 3 c)) () 1 + tallyAt (barCell (nbr 2 c)) () 1
    + tallyAt (barCell (nbr 1 c)) () 1 + tallyAt (barCell (nbr 0 c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The order of the waits: the barrier, then the rounds' handshakes and receptions in turn. -/
def lvK : Ck → ℕ
  | none => 1
  | some (0, r) => 2 + 2 * r.val
  | some (1, _) => 0
  | some (2, r) => 3 + 2 * r.val
def lv (g : GSem nD τ sig) (_ : Unit) : ℕ := (decode g.2).elim 0 lvK
theorem lv_eq (c : Dev nD) (k : Ck) (u : Unit) : lv (kcell c k) u = lvK k := by
  show (decode (csem k)).elim 0 lvK = lvK k
  rw [decode_csem]; rfl

/-- An obligation of the rounds of a list is a cell of one of its rounds. -/
theorem owedL_pos {c : Dev nD} {rs : List (Fin 10)} {g : GSem nD τ sig} {u : Unit} (h : 0 < owedL c rs g u) :
    ∃ r ∈ rs, g = kcell (peer r c) (some (2, r)) ∨ g = kcell (peer r c) (some (0, r)) := by
  induction rs with
  | nil => exact absurd h (Nat.lt_irrefl 0)
  | cons r rs ih =>
    unfold owedL at h
    rw [Pi.add_apply, Finsupp.add_apply, Pi.add_apply, Finsupp.add_apply, tallyAt_apply, tallyAt_apply] at h
    by_cases h1 : 0 < owedL c rs g u
    · obtain ⟨r', hr', hg⟩ := ih h1
      exact ⟨r', List.mem_cons_of_mem _ hr', hg⟩
    · by_cases h2 : g = recvCell (peer r c) r ∧ u = ()
      · exact ⟨r, List.mem_cons_self, .inl h2.1⟩
      · by_cases h3 : g = readyCell (peer r c) r ∧ u = ()
        · exact ⟨r, List.mem_cons_self, .inr h3.1⟩
        · rw [if_neg h2, if_neg h3] at h; omega

/-- Every obligation of rounds from the `n`-th on lies on a TensorCore at level `2 + 2 n` or above. -/
theorem owedL_level {c : Dev nD} {n : ℕ} (hn : n ≤ 10) {g : GSem nD τ sig} {u : Unit} (h : 0 < owedL c (roundsFrom n) g u) :
    u ∈ L g ∧ 2 + 2 * n ≤ lv g u := by
  obtain ⟨r, hr, hg⟩ := owedL_pos h
  have hle : n ≤ r.val := mem_roundsFrom ⟨n, by omega⟩ r hr
  rcases hg with rfl | rfl
  · refine ⟨by rw [L_tc]; exact Finset.mem_singleton_self _, ?_⟩
    rw [lv_eq]; show 2 + 2 * n ≤ 3 + 2 * r.val; omega
  · refine ⟨by rw [L_tc]; exact Finset.mem_singleton_self _, ?_⟩
    rw [lv_eq]; show 2 + 2 * n ≤ 2 + 2 * r.val; omega

/-- A wait at level `l` is allowed while every obligation lies above `l`. -/
theorem mayWait_of (c : Dev nD) (sm : SemLoc sig) (l : ℕ) (hl : lv ((c : Thread nD τ), sm) () ≤ l) (O : CellTallies nD τ sig Unit)
    (hO : ∀ g u, 0 < O g u → u ∈ L g ∧ l < lv g u) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => (hO g u hg).1) (fun p hp => by rw [Finset.mem_singleton.mp hp]; exact hl) (fun g u hg => (hO g u hg).2)

/-- The barrier's wait. -/
theorem mayWait_bar (c : Dev nD) : (levAts L lv : sProp 𝕄) ⊢ MayWait (c : Thread nD τ) (.reg barS) () (owedL c (roundsFrom 0)) :=
  mayWait_of c _ 1 (le_of_eq (lv_eq c none ())) _ fun g u h => by
    have := owedL_level (by omega) h; exact ⟨this.1, by omega⟩

/-- A wait of round `r` while the later rounds are owed. -/
theorem mayWait_later (c : Dev nD) (k : Ck) (r : Fin 10) (hk : lvK k ≤ 3 + 2 * r.val) :
    (levAts L lv : sProp 𝕄) ⊢ MayWait (c : Thread nD τ) (csem k) () (owedL c (roundsFrom (r.val + 1))) :=
  mayWait_of c _ (3 + 2 * r.val) ((lv_eq c k ()).trans_le hk) _ fun g u h => by
    have := owedL_level (by have := r.isLt; omega) h; exact ⟨this.1, by omega⟩

/-- The handshake's wait of round `r`, the round's transfer still owed. -/
theorem mayWait_ready (c : Dev nD) (r : Fin 10) :
    (levAts L lv : sProp 𝕄) ⊢ MayWait (c : Thread nD τ) (.reg (semAt cc0_scratch4 r)) ()
      (owedL c (roundsFrom (r.val + 1)) + tallyAt (recvCell (peer r c) r) () N) :=
  mayWait_of c _ (2 + 2 * r.val) (le_of_eq (lv_eq c (some (0, r)) ())) _ fun g u h => by
    rw [Pi.add_apply, Finsupp.add_apply, tallyAt_apply] at h
    by_cases h1 : 0 < owedL c (roundsFrom (r.val + 1)) g u
    · have := owedL_level (by have := r.isLt; omega) h1; exact ⟨this.1, by omega⟩
    · by_cases h2 : g = recvCell (peer r c) r ∧ u = ()
      · rw [h2.1, show recvCell (peer r c) r = kcell (peer r c) (some (2, r)) from rfl, lv_eq, L_tc]
        exact ⟨Finset.mem_singleton_self _, by show 2 + 2 * r.val < 3 + 2 * r.val; omega⟩
      · rw [if_neg h2] at h; omega

/-- Every obligation at launch lies at level 1 or above. -/
theorem O₀_level {c : Dev nD} {g : GSem nD τ sig} {u : Unit} (h : 0 < O₀ c g u) : u ∈ L g ∧ 0 < lv g u := by
  unfold O₀ at h
  simp only [Pi.add_apply, Finsupp.add_apply, tallyAt_apply] at h
  have hb : ∀ d : Dev nD, g = barCell d → u ∈ L g ∧ 0 < lv g u := fun d hg => by
    rw [hg, show barCell d = kcell d none from rfl, lv_eq, L_tc]; exact ⟨Finset.mem_singleton_self _, Nat.one_pos⟩
  by_cases h0 : 0 < owedL c (roundsFrom 0) g u
  · have := owedL_level (by omega) h0; exact ⟨this.1, by omega⟩
  by_cases h1 : g = barCell (nbr 3 c)
  · exact hb _ h1
  by_cases h2 : g = barCell (nbr 2 c)
  · exact hb _ h2
  by_cases h3 : g = barCell (nbr 1 c)
  · exact hb _ h3
  by_cases h4 : g = barCell (nbr 0 c)
  · exact hb _ h4
  rw [if_neg fun h => h1 h.1, if_neg fun h => h2 h.1, if_neg fun h => h3 h.1, if_neg fun h => h4 h.1] at h; omega

/-- A staging wait, at launch or with nothing owed. -/
theorem mayWait_stage (c : Dev nD) (q : DmaSem sig) (hq : decode (.dma q) = none) (O : CellTallies nD τ sig Unit) (hO : O = O₀ c ∨ O = 0) :
    (levAts L lv : sProp 𝕄) ⊢ MayWait (c : Thread nD τ) (.dma q) () O := by
  rcases hO with rfl | rfl
  · refine mayWait_of c _ 0 (le_of_eq ?_) _ fun g u h => O₀_level h
    show (decode (.dma q)).elim 0 lvK = 0
    rw [hq]; rfl
  · rw [MayWait_zero]; iintro -; iempintro

end Cert.KernelIdeal.Sorter

end
-- ==== Proof.Ideal.Exchange.lean ====
/-
The exchange rounds, executed symbolically: the handshake trades the device's own slot for the partner's, the transfer
trades the partner's slot for its own one holding the partner's block, and the comparison updates the working block.
-/
module

public import proofs.«01_k».proof.Proof.Ideal.Protocol

@[expose] public section

noncomputable section

namespace Cert.KernelIdeal.Sorter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev wpc (c : Dev nD) {α : Type} (p : Prog (Eff F) α) (K : α → sProp 𝕄) : sProp 𝕄 :=
  wp frame (wpE (defs₀ (F := F)) 𝒱₀ (c : Thread nD τ) none) Set.univ p K

/-! ## Loads and stores of whole blocks -/

theorem offs_zero : (![0, 0] : Fin 2 → Nat) = fun _ => 0 := funext fun a => by fin_cases a <;> rfl

/-- A load of the working block returns its contents. -/
theorem wp_ld (c : Dev nD) (v : Blk F) (K : Blk F → sProp 𝕄) :
    iprop(blkAt c v ∗ (blkAt c v -∗ K v)) ⊢ wpc c (ld bM) K := by
  unfold ld blkAt wpc
  simp only [Prog.lift]
  iintro ⟨Hb, Hk⟩
  iapply (wp_load 𝒱₀ (c : Thread nD τ) none Set.univ (m := bM) (by rw [View.set_whole]; exact Finset.subset_univ _)) $$ Hb
  iintro Hb
  rw [show bM.view.readAt (Elt F) blkR.toLoadRect v = v from Memref.readAt_unit_zero (Elt F) cc0_scratch0 offs_zero _ v, wp_ret]
  imodintro
  iapply Hk; iexact Hb

/-- A store of the working block replaces its contents. -/
theorem wp_st (c : Dev nD) (v w : Blk F) (K : PUnit → sProp 𝕄) :
    iprop(blkAt c v ∗ (blkAt c w -∗ K ⟨⟩)) ⊢ wpc c (st bM (Memref.isWhole_whole _) w) K := by
  unfold st blkAt wpc
  simp only [Prog.lift]
  iintro ⟨Hb, Hk⟩
  iapply (wp_store 𝒱₀ (c : Thread nD τ) none Set.univ (m := bM) (r := blkR) (Mk := Finset.univ)
    (by rw [View.set_whole]; exact Finset.subset_univ _)) $$ Hb
  iintro Hb
  rw [show (bM.access blkR : View sig .tc _ _ _).write (Elt F) v w Finset.univ = w from
    Memref.write_access_unit_zero_univ (Elt F) cc0_scratch0 offs_zero _ v w, wp_ret]
  imodintro
  iapply Hk; iexact Hb

/-- A step inside the block. -/
theorem wp_stage (c : Dev nD) (a : ℕ) (b : Fin 10) (v : Blk F) (K : PUnit → sProp 𝕄) :
    iprop(blkAt c v ∗ (blkAt c (stageVal (rowsOf c) a b v) -∗ K ⟨⟩)) ⊢ wpc c (stageProg bM (Memref.isWhole_whole _) c a b) K := by
  unfold stageProg wpc
  rw [wp_bind]
  iintro ⟨Hb, Hk⟩
  iapply (wp_ld c v); isplitl [Hb]; · iexact Hb
  iintro Hb
  rw [wp_bind]
  iapply (wp_ld c v); isplitl [Hb]; · iexact Hb
  iintro Hb
  iapply (wp_st c v); isplitl [Hb]; · iexact Hb
  iexact Hk

/-! ## The cells' records, and what a round uses up and leaves -/

variable (X : Dev nD → Blk F)

/-- Every cell's invariant, and that its round 0 is reached. -/
def records (K : Dev nD × Ck → ℕ) : sProp 𝕄 :=
  iprop((bigSep Finset.univ fun ck : Dev nD × Ck => cellInv ER (Rd X) (K ck) (kcell ck.1 ck.2))
    ∗ bigSep Finset.univ fun ck : Dev nD × Ck => reached ER (kcell ck.1 ck.2) 0)

instance records_persistent (K : Dev nD × Ck → ℕ) : BI.Persistent (records X K) := by unfold records; infer_instance

theorem records_inv (K : Dev nD × Ck → ℕ) (c : Dev nD) (k : Ck) : records X K ⊢ cellInv ER (Rd X) (K (c, k)) (kcell c k) := by
  have h : (bigSep Finset.univ fun ck : Dev nD × Ck => (cellInv ER (Rd X) (K ck) (kcell ck.1 ck.2) : sProp 𝕄))
      ⊢ cellInv ER (Rd X) (K (c, k)) (kcell c k) := bigSep_elim (Finset.mem_univ (c, k))
  unfold records
  iintro ⟨H, -⟩
  iapply h; iexact H

theorem records_reached (K : Dev nD × Ck → ℕ) (c : Dev nD) (k : Ck) : records X K ⊢ reached ER (kcell c k) 0 := by
  have h : (bigSep Finset.univ fun ck : Dev nD × Ck => (reached ER (kcell ck.1 ck.2) 0 : sProp 𝕄))
      ⊢ reached ER (kcell c k) 0 := bigSep_elim (Finset.mem_univ (c, k))
  unfold records
  iintro ⟨-, H⟩
  iapply h; iexact H

/-- What device `c` starts round `r` with, besides memory: its positions, the tokens of what it pays, its credits. -/
def pkg (c : Dev nD) (r : Fin 10) : sProp 𝕄 :=
  iprop(atPos ER (readyCell c r) 0 ∅ 0 ∗ atPos ER (sendCell c r) 0 ∅ 0 ∗ atPos ER (recvCell c r) 0 ∅ 0
    ∗ dutyTok ER (readyCell (peer r c) r) 0 0 ∗ dutyTok ER (sendCell c r) 0 0 ∗ dutyTok ER (recvCell (peer r c) r) 0 0
    ∗ cred (tallyAt (readyCell c r) () (rdy r)) ∗ cred (tallyAt (recvCell c r) () N))

/-- What round `r` leaves: its three counters at zero. -/
def done (c : Dev nD) (r : Fin 10) : sProp 𝕄 :=
  iprop(semVal (readyCell c r) 0 ∗ semVal (sendCell c r) 0 ∗ semVal (recvCell c r) 0)

/-- What device `c` owes, whatever it waited for. -/
def owing (c : Dev nD) (O : CellTallies nD τ sig Unit) : sProp 𝕄 := iprop(∃ W, owes (c : Thread nD τ) O W)

variable (K : Dev nD × Ck → ℕ)

/-! ## The handshake -/

/-- A ready cell's position after its round closes it. -/
theorem close_cell (c : Dev nD) (k : Ck) :
    iprop(records X K ∗ atPos ER (kcell c k) (0 + 1) ∅ 0) ⊢ |={Set.univ}=> semVal (kcell c k) 0 := by
  iintro ⟨#HR, Hat⟩
  iapply (Rounds.cell_close ER (Rd X) (Set.mem_univ (K (c, k))) (fun h => h) (R := 0 + 1) (duties_later X (kcell c k)))
  isplitr; · iapply (records_inv X K c k); iexact HR
  iexact Hat

/-- What the partner's ready cell is handed: the device's own slot. -/
theorem payload_ready (c : Dev nD) (r : Fin 10) :
    (Rd X).payload (kcell (peer r c) (some (0, r))) 0 0 = slotAny c (r.val % 2) := by
  rw [payload_eq]
  show slotAny (peer r (peer r c)) (r.val % 2) = _
  rw [peer_peer]

theorem expect_ready (c : Dev nD) (r : Fin 10) (hr : 2 ≤ r.val) : (Rd X).expect (readyCell c r) 0 = 1 := by
  rw [show readyCell c r = kcell c (some (0, r)) from rfl, expect_eq, show dut (some (0, r)) = {0} from if_pos hr]; rfl
theorem expect_send (c : Dev nD) (r : Fin 10) : (Rd X).expect (sendCell c r) 0 = N := by
  rw [show sendCell c r = kcell c (some (1, r)) from rfl, expect_eq]; unfold dut amt; rw [Finset.card_singleton, Nat.one_mul]
theorem expect_recv (c : Dev nD) (r : Fin 10) : (Rd X).expect (recvCell c r) 0 = N := by
  rw [show recvCell c r = kcell c (some (2, r)) from rfl, expect_eq]; unfold dut amt; rw [Finset.card_singleton, Nat.one_mul]

/-- The handshake of round `r ≥ 2`: the device's own slot goes to the partner, the partner's comes. -/
theorem wp_ready (c : Dev nD) (r : Fin 10) (hr : 2 ≤ r.val) (Q : PUnit → sProp 𝕄) :
    iprop(records X K ∗ levAts L lv ∗ slotAny c (r.val % 2)
        ∗ owing c (owedL c (roundsFrom (r.val + 1)) + tallyAt (recvCell (peer r c) r) () N + tallyAt (readyCell (peer r c) r) () 1)
        ∗ dutyTok ER (readyCell (peer r c) r) 0 0 ∗ atPos ER (readyCell c r) 0 ∅ 0 ∗ cred (tallyAt (readyCell c r) () 1)
        ∗ ((slotAny (peer r c) (r.val % 2) ∗ owing c (owedL c (roundsFrom (r.val + 1)) + tallyAt (recvCell (peer r c) r) () N)
            ∗ semVal (readyCell c r) 0) -∗ Q ⟨⟩))
      ⊢ wpc c (readyProg cc0_scratch4 c r) Q := by
  have hd : dut (some (0, r)) = {0} := if_pos hr
  unfold readyProg wpc owing
  simp only [semSignalWord, semWaitWord, Prog.lift, Prog.bind_op, Prog.bind_ret, Prog.pure_eq_ret]
  iintro ⟨#HR, #Hlev, Hslot, ⟨%W, HO⟩, Htok, Hat, Hcr, Hk⟩
  iapply (Rounds.wp_signal 𝒱₀ ER (Rd X) (c : Thread nD τ) none (dst := (peer r c : Thread nD τ)) (κ := K (peer r c, some (0, r)))
      (d := 0) (by rw [show ((peer r c : Thread nD τ), SemLoc.reg (semAt cc0_scratch4 r)) = kcell (peer r c) (some (0, r)) from rfl, duties_eq, hd]
                   exact Finset.mem_singleton_self _)
      (amount_eq X (peer r c) (some (0, r)) 0) () (owedL c (roundsFrom (r.val + 1)) + tallyAt (recvCell (peer r c) r) () N) rfl)
    $$ [HO Htok Hslot]
  · isplitr; · iapply (records_inv X K (peer r c) (some (0, r))); iexact HR
    isplitl [HO]; · iexact HO
    isplitl [Htok]; · iexact Htok
    isplitl [Hslot]
    · iapply (Entails.of_eq (payload_ready X c r).symm); iexact Hslot
    · iapply (records_reached X K (peer r c) (some (0, r))); iexact HR
  iintro HO
  iapply (Rounds.wp_wait_rest_token 𝒱₀ ER (Rd X) (c : Thread nD τ) none (κ := K (c, some (0, r)))
      (wpE_semWait_eq 𝒱₀ (c : Thread nD τ) none Set.univ) (Set.mem_univ _) ()
      (O := owedL c (roundsFrom (r.val + 1)) + tallyAt (recvCell (peer r c) r) () N) (W := W) (R := 0) (m := 0) (T := ∅)
      (by rw [expect_ready X c r hr]; rfl)) $$ [Hcr HO Hat]
  · isplitr; · iapply (records_inv X K c (some (0, r))); iexact HR
    isplitl [Hcr]; · iexact Hcr
    isplitl [HO]; · iexact HO
    isplitr; · iapply (mayWait_ready c r); iexact Hlev
    iexact Hat
  iintro ⟨HO, Hat, -, Hpay⟩
  ihave Hp := (Entails.of_eq ((rest_one X c (some (0, r)) hd).trans (show _ = slotAny (peer r c) (r.val % 2) from rfl))) $$ Hpay
  imod (close_cell X K c (some (0, r))) $$ [Hat] with Hz
  · isplitr; · iexact HR
    iexact Hat
  rw [wp_ret]; imodintro
  iapply Hk
  isplitl [Hp]; · iexact Hp
  isplitl [HO]; · iexists _; iexact HO
  iexact Hz

/-! ## The transfer -/

/-- Addressing a transfer to the partner: the working block goes out on loan, the partner's slot with it. -/
theorem wp_send_round (c : Dev nD) (r : Fin 10)
    {hsc : (slotM r : Memref sig (Dev.tc (peer r c) : Thread nD τ).2.kind .vmem S1024x256 .bf16).view.ref.isScScratch = false}
    {hsrc : bM.view.WordExact} {hdst : (slotM r).view.WordExact}
    {hsem : DmaTarget.Typed .vmem (.dma (dmaAt cc0_scratch3 r)) (.remote (Dev.tc (peer r c) : Thread nD τ) (slotM r) (.dma (dmaAt cc0_scratch2 r)) hsc)}
    {Q : PUnit → sProp 𝕄} {k : PUnit → Prog (Eff F) PUnit}
    (O : CellTallies nD τ sig Unit) (W : Waits sig Unit) :
    iprop(records X K ∗ blkAt c (after X (tOf r) c) ∗ slotAny (peer r c) (r.val % 2)
        ∗ owes (c : Thread nD τ) (O + tallyAt (recvCell (peer r c) r) () N) W
        ∗ dutyTok ER (sendCell c r) 0 0 ∗ dutyTok ER (recvCell (peer r c) r) 0 0)
      ⊢ iprop(((cred (tallyAt (sendCell c r) () N) ∗ owes (c : Thread nD τ) O W) -∗ wpc c (k ⟨⟩) Q)
          -∗ wpc c (.op (.enqueueDma bM (.remote (Dev.tc (peer r c) : Thread nD τ) (slotM r) (.dma (dmaAt cc0_scratch2 r)) hsc)
              (.dma (dmaAt cc0_scratch3 r)) hsrc hdst hsem) k) Q) := by
  unfold slotAny
  rw [show slotSet (r.val % 2) = (slotM r).view.set from (slotM_set r).symm]
  iintro ⟨#HR, Hb, ⟨%fd, Hs⟩, HO, HtS, HtV⟩
  iapply (Rounds.wp_send_pointsTo 𝒱₀ ER (Rd X) (c : Thread nD τ) none (κ₁ := K (c, some (1, r))) (κ₂ := K (peer r c, some (2, r)))
    (c' := (peer r c : Thread nD τ)) (src := bM) (dst := slotM r) (q := fullShare)
    (r₁ := 0) (r₂ := 0) (d₁ := 0) (d₂ := 0) (fs := after X (tOf r) c) (fd := fd)
    (by rw [show ((c : Thread nD τ), SemLoc.dma (dmaAt cc0_scratch2 r)) = kcell c (some (1, r)) from rfl, duties_eq]; exact Finset.mem_singleton_self _)
    (by rw [show ((peer r c : Thread nD τ), SemLoc.dma (dmaAt cc0_scratch3 r)) = kcell (peer r c) (some (2, r)) from rfl, duties_eq]; exact Finset.mem_singleton_self _)
    () () N rfl (amount_eq X c (some (1, r)) 0) (amount_eq X (peer r c) (some (2, r)) 0) O rfl (W := W)
    ((BI.Entails.refl _).trans (Entails.of_eq (payload_eq X c (some (1, r)) 0).symm))
    (BI.Entails.trans (by
      show _ ⊢ slotAt (peer r c) r (after X (tOf r) (peer r (peer r c)))
      unfold slotAt
      rw [peer_peer]
      iintro H
      iexists _
      isplitr
      · ipureintro
        exact (View.read_write_univ (v := (slotM r).view) fd (bM.view.read (Elt F) (after X (tOf r) c))).trans (View.read_whole _ _)
      iexact H) (Entails.of_eq (payload_eq X (peer r c) (some (2, r)) 0).symm)))
  unfold blkAt
  isplitr; · iapply (records_inv X K c (some (1, r))); iexact HR
  isplitr; · iapply (records_inv X K (peer r c) (some (2, r))); iexact HR
  isplitl [Hb]; · iexact Hb
  isplitl [Hs]; · iexact Hs
  isplitl [HO]; · iexact HO
  isplitl [HtS]; · iexact HtS
  isplitr; · iapply (records_reached X K c (some (1, r))); iexact HR
  isplitl [HtV]; · iexact HtV
  iapply (records_reached X K (peer r c) (some (2, r))); iexact HR

end Cert.KernelIdeal.Sorter

end
-- ==== Proof.Ideal.Round.lean ====
/-
One exchange round as a whole, and the list of all 105 steps: the working blocks go through the family `after`, the
obligations and the rounds' ghost state shrink round by round, every counter ends at zero.
-/
module

public import proofs.«01_k».proof.Proof.Ideal.Exchange
public import Idealize.ShloMosaic.Lib.Pipeline.Value

@[expose] public section

noncomputable section

namespace Cert.KernelIdeal.Sorter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × Ck → ℕ)

/-- The wait for the outgoing copy: the working block is back. -/
theorem wp_wait_send (c : Dev nD) (r : Fin 10) {h₁ : (slotM r).view.WordExact} {h₂ : bM.view.WordExact} (Q : PUnit → sProp 𝕄) :
    iprop(records X K ∗ levAts L lv ∗ cred (tallyAt (sendCell c r) () N) ∗ owing c (owedL c (roundsFrom (r.val + 1)))
        ∗ atPos ER (sendCell c r) 0 ∅ 0
        ∗ ((blkAt c (after X (tOf r) c) ∗ owing c (owedL c (roundsFrom (r.val + 1))) ∗ semVal (sendCell c r) 0) -∗ Q ⟨⟩))
      ⊢ wpc c (Prog.lift (.waitDma2 (dmaAt cc0_scratch2 r) (slotM r) bM h₁ h₂)) Q := by
  unfold wpc owing
  simp only [Prog.lift]
  iintro ⟨#HR, #Hlev, Hcr, ⟨%W, HO⟩, Hat, Hk⟩
  iapply (Rounds.wp_wait_rest_token 𝒱₀ ER (Rd X) (c : Thread nD τ) none (κ := K (c, some (1, r)))
      (wpE_waitDma2_eq 𝒱₀ (c : Thread nD τ) none Set.univ) (Set.mem_univ _) () (O := owedL c (roundsFrom (r.val + 1))) (W := W)
      (R := 0) (m := 0) (T := ∅) (by rw [Nat.zero_add, expect_send])) $$ [Hcr HO Hat]
  · isplitr; · iapply (records_inv X K c (some (1, r))); iexact HR
    isplitl [Hcr]; · iexact Hcr
    isplitl [HO]; · iexact HO
    isplitr; · iapply (mayWait_later c (some (1, r)) r (Nat.zero_le _)); iexact Hlev
    iexact Hat
  iintro ⟨HO, Hat, -, Hpay⟩
  ihave Hb := (Entails.of_eq ((rest_one X c (some (1, r)) rfl).trans (show _ = blkAt c (after X (tOf r) c) from rfl))) $$ Hpay
  imod (close_cell X K c (some (1, r))) $$ [Hat] with Hz
  · isplitr; · iexact HR
    iexact Hat
  rw [wp_ret]; imodintro
  iapply Hk
  isplitl [Hb]; · iexact Hb
  isplitl [HO]; · iexists _; iexact HO
  iexact Hz

theorem slot_credit (r : Fin 10) : (slotM r).view.dmaCredit = N := rfl

/-- The wait for the partner's copy: the own slot, holding the partner's block. -/
theorem wp_wait_recv (c : Dev nD) (r : Fin 10) {h₁ : bM.view.WordExact} {h₂ : (slotM r).view.WordExact} (Q : PUnit → sProp 𝕄) :
    iprop(records X K ∗ levAts L lv ∗ cred (tallyAt (recvCell c r) () N) ∗ owing c (owedL c (roundsFrom (r.val + 1)))
        ∗ atPos ER (recvCell c r) 0 ∅ 0
        ∗ ((slotAt c r (after X (tOf r) (peer r c)) ∗ owing c (owedL c (roundsFrom (r.val + 1))) ∗ semVal (recvCell c r) 0) -∗ Q ⟨⟩))
      ⊢ wpc c (Prog.lift (.waitDma2 (dmaAt cc0_scratch3 r) bM (slotM r) h₁ h₂)) Q := by
  unfold wpc owing
  rw [← slot_credit r]
  simp only [Prog.lift]
  iintro ⟨#HR, #Hlev, Hcr, ⟨%W, HO⟩, Hat, Hk⟩
  iapply (Rounds.wp_wait_rest_token 𝒱₀ ER (Rd X) (c : Thread nD τ) none (κ := K (c, some (2, r)))
      (wpE_waitDma2_eq 𝒱₀ (c : Thread nD τ) none Set.univ) (Set.mem_univ _) () (O := owedL c (roundsFrom (r.val + 1))) (W := W)
      (R := 0) (m := 0) (T := ∅) ((Nat.zero_add _).trans ((slot_credit r).trans (expect_recv X c r).symm))) $$ [Hcr HO Hat]
  · isplitr; · iapply (records_inv X K c (some (2, r))); iexact HR
    isplitl [Hcr]; · iexact Hcr
    isplitl [HO]; · iexact HO
    isplitr; · iapply (mayWait_later c (some (2, r)) r (le_refl _)); iexact Hlev
    iexact Hat
  iintro ⟨HO, Hat, -, Hpay⟩
  ihave Hb := (Entails.of_eq ((rest_one X c (some (2, r)) rfl).trans (show _ = slotAt c r (after X (tOf r) (peer r c)) from rfl))) $$ Hpay
  imod (close_cell X K c (some (2, r))) $$ [Hat] with Hz
  · isplitr; · iexact HR
    iexact Hat
  rw [wp_ret]; imodintro
  iapply Hk
  isplitl [Hb]; · iexact Hb
  isplitl [HO]; · iexists _; iexact HO
  iexact Hz

omit [FloatOps F] in
theorem slotAt_any (c : Dev nD) (r : Fin 10) (u : Blk F) : (slotAt c r u : sProp 𝕄) ⊢ slotAny c (r.val % 2) := by
  unfold slotAt slotAny
  rw [show slotSet (r.val % 2) = (slotM r).view.set from (slotM_set r).symm]
  iintro ⟨%f, -, H⟩
  iexists f; iexact H

/-- A load of the slot returns, as a block, what the slot holds. -/
theorem wp_ld_slot (c : Dev nD) (r : Fin 10) (u : Blk F) {hl : lM.view.LoadsAt (slotR r).toLoadRect} (Q : Vec F S1x1024x256 .bf16 → sProp 𝕄) :
    iprop(slotAt c r u ∗ (∀ w, ⌜shapeCast S1024x256 w shapeCasts_S1x1024x256_S1024x256 = u⌝ -∗ slotAny c (r.val % 2) -∗ Q w))
      ⊢ wpc c (Prog.lift (.load lM (slotR r).toLoadRect hl)) Q := by
  unfold slotAt wpc
  simp only [Prog.lift]
  iintro ⟨⟨%f, %hf, Hs⟩, Hk⟩
  iapply (wp_load 𝒱₀ (c : Thread nD τ) none Set.univ (m := lM) (r := (slotR r).toLoadRect) (S := (slotM r).view.set) (f := f)
    (by rw [show (slotM r).view.set = (lM.slice (slotR r) (fun _ => rfl)).view.set from
          Memref.set_view_squeeze (lM.slice (slotR r) (fun _ => rfl)) squeezes_S1x1024x256_S1024x256]
        exact (View.set_slice (v := lM.view) (slotR r)).symm.subset)) $$ Hs
  iintro Hs
  rw [wp_ret]; imodintro
  iapply Hk
  · ipureintro
    exact (Memref.read_squeeze_slice (Val := Elt F) lM (slotR r) (fun _ => rfl) squeezes_S1x1024x256_S1024x256 shapeCasts_S1x1024x256_S1024x256 f).symm.trans hf
  iapply (slotAt_any c r u)
  unfold slotAt
  iexists f
  isplitr; · ipureintro; exact hf
  iexact Hs

/-- The exchange of round `r`: from the partner's slot in hand to the own slot in hand and the working block compared. -/
theorem wp_exch (c : Dev nD) (r : Fin 10) (Q : PUnit → sProp 𝕄) :
    iprop(records X K ∗ levAts L lv ∗ slotAny (peer r c) (r.val % 2) ∗ blkAt c (after X (tOf r) c)
        ∗ owing c (owedL c (roundsFrom (r.val + 1)) + tallyAt (recvCell (peer r c) r) () N)
        ∗ dutyTok ER (sendCell c r) 0 0 ∗ dutyTok ER (recvCell (peer r c) r) 0 0
        ∗ atPos ER (sendCell c r) 0 ∅ 0 ∗ atPos ER (recvCell c r) 0 ∅ 0 ∗ cred (tallyAt (recvCell c r) () N)
        ∗ ((slotAny c (r.val % 2) ∗ blkAt c (combine c r (after X (tOf r) c) (after X (tOf r) (peer r c)))
            ∗ owing c (owedL c (roundsFrom (r.val + 1))) ∗ semVal (sendCell c r) 0 ∗ semVal (recvCell c r) 0) -∗ Q ⟨⟩))
      ⊢ wpc c (exchProg bM (Memref.isWhole_whole _) lM (Memref.isWhole_whole _) cc0_scratch2 cc0_scratch3 c r) Q := by
  unfold exchProg wpc
  rw [wp_bind]
  iintro ⟨#HR, #Hlev, Hslot, Hb, HO, HtS, HtV, HatS, HatV, HcV, Hk⟩
  ihave HO' := (show owing c (owedL c (roundsFrom (r.val + 1)) + tallyAt (recvCell (peer r c) r) () N) ⊢ iprop(∃ W, owes (c : Thread nD τ) (owedL c (roundsFrom (r.val + 1)) + tallyAt (recvCell (peer r c) r) () N) W : sProp 𝕄) from BI.Entails.refl _) $$ HO
  icases HO' with ⟨%W, HO⟩
  iapply (wp_send_round X K c r (k := .ret) (owedL c (roundsFrom (r.val + 1))) W) $$ [Hb Hslot HO HtS HtV]
  · isplitr; · iexact HR
    isplitl [Hb]; · iexact Hb
    isplitl [Hslot]; · iexact Hslot
    isplitl [HO]; · iexact HO
    isplitl [HtS]; · iexact HtS
    iexact HtV
  iintro ⟨HcS, HO⟩
  unfold wpc
  rw [wp_ret]; imodintro
  rw [wp_bind]
  iapply (wp_wait_send X K c r)
  isplitr; · iexact HR
  isplitr; · iexact Hlev
  isplitl [HcS]; · iexact HcS
  isplitl [HO]; · unfold owing; iexists W; iexact HO
  isplitl [HatS]; · iexact HatS
  iintro ⟨Hb, HO, HzS⟩
  rw [wp_bind]
  iapply (wp_wait_recv X K c r)
  isplitr; · iexact HR
  isplitr; · iexact Hlev
  isplitl [HcV]; · iexact HcV
  isplitl [HO]; · iexact HO
  isplitl [HatV]; · iexact HatV
  iintro ⟨Hs, HO, HzV⟩
  rw [wp_bind]
  iapply (wp_ld c (after X (tOf r) c))
  isplitl [Hb]; · iexact Hb
  iintro Hb
  rw [wp_bind]
  iapply (wp_ld_slot c r (after X (tOf r) (peer r c)))
  isplitl [Hs]; · iexact Hs
  iintro %w %hw Hs
  rw [wp_bind]
  iapply (wp_ld c (after X (tOf r) c))
  isplitl [Hb]; · iexact Hb
  iintro Hb
  iapply (wp_st c (after X (tOf r) c))
  isplitl [Hb]; · iexact Hb
  iintro Hb
  iapply Hk
  rw [roundVal_eq, hw]
  isplitl [Hs]; · iexact Hs
  isplitl [Hb]; · iexact Hb
  isplitl [HO]; · iexact HO
  isplitl [HzS]; · iexact HzS
  iexact HzV

/-! ## The slots between the rounds -/

/-- The two slots device `c` holds before the `n`-th round. -/
def slots (c : Dev nD) (n : ℕ) : sProp 𝕄 :=
  iprop(slotAny (if n = 0 then peer 0 c else c) 0 ∗ slotAny (if n ≤ 1 then peer 1 c else c) 1)

/-- The first two rounds start with the partner's slot in hand. -/
theorem slots_early (c : Dev nD) (r : Fin 10) (hr : ¬ 2 ≤ r.val) :
    (slots c r.val : sProp 𝕄) ⊢ iprop(slotAny (peer r c) (r.val % 2) ∗ (slotAny c (r.val % 2) -∗ slots c (r.val + 1))) := by
  have h : r = 0 ∨ r = 1 := by
    rcases r with ⟨_ | _ | n, hn⟩
    · exact .inl rfl
    · exact .inr rfl
    · exact absurd (by show 2 ≤ n + 2; omega) hr
  rcases h with rfl | rfl
  · show iprop(slotAny (peer 0 c) 0 ∗ slotAny (peer 1 c) 1) ⊢ iprop(slotAny (peer 0 c) 0 ∗ (slotAny c 0 -∗ iprop(slotAny c 0 ∗ slotAny (peer 1 c) 1)))
    iintro ⟨H0, H1⟩
    isplitl [H0]; · iexact H0
    iintro H
    isplitl [H] <;> iassumption
  · show iprop(slotAny c 0 ∗ slotAny (peer 1 c) 1) ⊢ iprop(slotAny (peer 1 c) 1 ∗ (slotAny c 1 -∗ iprop(slotAny c 0 ∗ slotAny c 1)))
    iintro ⟨H0, H1⟩
    isplitl [H1]; · iexact H1
    iintro H
    isplitl [H0] <;> iassumption

/-- The later rounds start with the own slots in hand. -/
theorem slots_late (c : Dev nD) (r : Fin 10) (hr : 2 ≤ r.val) :
    (slots c r.val : sProp 𝕄) ⊢ iprop(slotAny c (r.val % 2) ∗ (slotAny c (r.val % 2) -∗ slots c (r.val + 1))) := by
  unfold slots
  rw [if_neg (by omega), if_neg (by omega), if_neg (by omega), if_neg (by omega)]
  rcases Nat.mod_two_eq_zero_or_one r.val with h | h <;> rw [h]
  · iintro ⟨H0, H1⟩
    isplitl [H0]; · iexact H0
    iintro H
    isplitl [H] <;> iassumption
  · iintro ⟨H0, H1⟩
    isplitl [H1]; · iexact H1
    iintro H
    isplitl [H0] <;> iassumption

/-! ## A round -/

theorem owedL_cons (c : Dev nD) (r : Fin 10) (rs : List (Fin 10)) : owedL c (r :: rs)
    = owedL c rs + tallyAt (recvCell (peer r c) r) () N + tallyAt (readyCell (peer r c) r) () (rdy r) := rfl

/-- A round: the slots move on, the working block is compared with the partner's, the round's counters end at zero. -/
theorem wp_round (c : Dev nD) (r : Fin 10) (Q : PUnit → sProp 𝕄) :
    iprop(records X K ∗ levAts L lv ∗ slots c r.val ∗ blkAt c (after X (tOf r) c) ∗ owing c (owedL c (roundsFrom r.val)) ∗ pkg c r
        ∗ ((slots c (r.val + 1) ∗ blkAt c (combine c r (after X (tOf r) c) (after X (tOf r) (peer r c)))
            ∗ owing c (owedL c (roundsFrom (r.val + 1))) ∗ done c r) -∗ Q ⟨⟩))
      ⊢ wpc c (roundProg bM (Memref.isWhole_whole _) lM (Memref.isWhole_whole _) cc0_scratch2 cc0_scratch3 cc0_scratch4 c r) Q := by
  unfold roundProg pkg done
  rw [roundsFrom_cons r, owedL_cons]
  by_cases hr : 2 ≤ r.val
  · rw [show decide (2 ≤ r.val) = true from decide_eq_true hr, show rdy r = 1 from if_pos hr]
    unfold wpc
    dsimp only
    rw [wp_bind]
    iintro ⟨#HR, #Hlev, Hslots, Hb, HO, ⟨HatR, HatS, HatV, HtR, HtS, HtV, HcR, HcV⟩, Hk⟩
    ihave Hsl := (slots_late c r hr) $$ Hslots
    icases Hsl with ⟨Hs, Hback⟩
    iapply (wp_ready X K c r hr)
    isplitr; · iexact HR
    isplitr; · iexact Hlev
    isplitl [Hs]; · iexact Hs
    isplitl [HO]; · iexact HO
    isplitl [HtR]; · iexact HtR
    isplitl [HatR]; · iexact HatR
    isplitl [HcR]; · iexact HcR
    iintro ⟨Hs, HO, HzR⟩
    iapply (wp_exch X K c r)
    isplitr; · iexact HR
    isplitr; · iexact Hlev
    isplitl [Hs]; · iexact Hs
    isplitl [Hb]; · iexact Hb
    isplitl [HO]; · iexact HO
    isplitl [HtS]; · iexact HtS
    isplitl [HtV]; · iexact HtV
    isplitl [HatS]; · iexact HatS
    isplitl [HatV]; · iexact HatV
    isplitl [HcV]; · iexact HcV
    iintro ⟨Hs, Hb, HO, HzS, HzV⟩
    iapply Hk
    isplitl [Hs Hback]; · iapply Hback; iexact Hs
    isplitl [Hb]; · iexact Hb
    isplitl [HO]; · iexact HO
    isplitl [HzR]; · iexact HzR
    isplitl [HzS] <;> iassumption
  · rw [show decide (2 ≤ r.val) = false from decide_eq_false hr, show rdy r = 0 from if_neg hr,
      show tallyAt (readyCell (peer r c) r) () 0 = (0 : CellTallies nD τ sig Unit) from tallyAt_zero _ _, add_zero]
    iintro ⟨#HR, #Hlev, Hslots, Hb, HO, ⟨HatR, HatS, HatV, HtR, HtS, HtV, HcR, HcV⟩, Hk⟩
    ihave Hsl := (slots_early c r hr) $$ Hslots
    icases Hsl with ⟨Hs, Hback⟩
    dsimp only
    unfold wpc
    imod (Rounds.cell_close ER (Rd X) (Es := Set.univ) (Set.mem_univ (K (c, some (0, r)))) (fun h => h) (R := 0) (duties_unused X c r hr)) $$ [HatR] with HzR
    · isplitr; · iapply (records_inv X K c (some (0, r))); iexact HR
      iexact HatR
    iapply (wp_exch X K c r)
    isplitr; · iexact HR
    isplitr; · iexact Hlev
    isplitl [Hs]; · iexact Hs
    isplitl [Hb]; · iexact Hb
    isplitl [HO]; · iexact HO
    isplitl [HtS]; · iexact HtS
    isplitl [HtV]; · iexact HtV
    isplitl [HatS]; · iexact HatS
    isplitl [HatV]; · iexact HatV
    isplitl [HcV]; · iexact HcV
    iintro ⟨Hs, Hb, HO, HzS, HzV⟩
    iapply Hk
    isplitl [Hs Hback]; · iapply Hback; iexact Hs
    isplitl [Hb]; · iexact Hb
    isplitl [HO]; · iexact HO
    isplitl [HzR]; · iexact HzR
    isplitl [HzS] <;> iassumption

end Cert.KernelIdeal.Sorter

end
-- ==== Proof.Ideal.Body.lean ====
/-
The whole body: the barrier, the copy of the argument block, the 105 steps, the conversion into the result block.
-/
module

public import proofs.«01_k».proof.Proof.Ideal.Round

@[expose] public section

noncomputable section

namespace Cert.KernelIdeal.Sorter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × Ck → ℕ)

/-! ## The steps -/

omit [FloatOps F] in
theorem bigSepL_cons_eq {l ls : List (Fin 10)} {r : Fin 10} (h : l = r :: ls) (Φ : Fin 10 → sProp 𝕄) :
    bigSepL l Φ = iprop(Φ r ∗ bigSepL ls Φ) := by rw [h, bigSepL_cons]; rfl

/-- The steps from the `t`-th on. -/
theorem wp_items (c : Dev nD) : ∀ (n t : ℕ), t + n = 105 → ∀ Q : PUnit → sProp 𝕄,
    iprop(records X K ∗ levAts L lv ∗ slots c (nOf t) ∗ blkAt c (after X t c) ∗ owing c (owedL c (roundsFrom (nOf t)))
        ∗ bigSepL (roundsFrom (nOf t)) (pkg c)
        ∗ ((slots c 10 ∗ blkAt c (after X 105 c) ∗ owing c 0 ∗ bigSepL (roundsFrom (nOf t)) (done c)) -∗ Q ⟨⟩))
      ⊢ wpc c (runItems bM (Memref.isWhole_whole _) lM (Memref.isWhole_whole _) cc0_scratch2 cc0_scratch3 cc0_scratch4 c (items.drop t)) Q
  | 0, t, h, Q => by
    obtain rfl : t = 105 := by omega
    rw [show items.drop 105 = [] from List.drop_eq_nil_of_le (le_of_eq items_length), nOf_end, roundsFrom_end]
    unfold wpc runItems owedL
    rw [Prog.pure_eq_ret, wp_ret]
    iintro ⟨-, -, Hs, Hb, HO, Hp, Hk⟩
    imodintro
    iapply Hk
    isplitl [Hs]; · iexact Hs
    isplitl [Hb]; · iexact Hb
    isplitl [HO]; · iexact HO
    iexact Hp
  | n + 1, t, h, Q => by
    have ht : t < items.length := by rw [items_length]; omega
    have hok : stepOk t items[t] = true := steps_ok ⟨t, ht⟩
    have hX := after_succ X t ht
    have ih := wp_items c n (t + 1) (by omega) Q
    rw [List.drop_eq_getElem_cons ht]
    rw [hX] at ih
    generalize items[t] = i at hok ih ⊢
    unfold runItems wpc
    rw [wp_bind]
    cases i with
    | loc a b =>
      have hn : nOf (t + 1) = nOf t := by simpa [stepOk] using hok
      rw [hn] at ih
      iintro ⟨#HR, #Hlev, Hs, Hb, HO, Hp, Hk⟩
      unfold itemProg
      dsimp only
      iapply (wp_stage c a b (after X t c))
      isplitl [Hb]; · iexact Hb
      iintro Hb
      iapply ih
      isplitr; · iexact HR
      isplitr; · iexact Hlev
      isplitl [Hs]; · iexact Hs
      isplitl [Hb]; · iexact Hb
      isplitl [HO]; · iexact HO
      isplitl [Hp]; · iexact Hp
      iexact Hk
    | rem r =>
      have hn : (tOf r = t ∧ nOf t = r.val) ∧ nOf (t + 1) = r.val + 1 := by simpa [stepOk] using hok
      obtain ⟨⟨rfl, hn0⟩, hn1⟩ := hn
      rw [hn1] at ih
      rw [hn0, bigSepL_cons_eq (roundsFrom_cons r), bigSepL_cons_eq (roundsFrom_cons r)]
      iintro ⟨#HR, #Hlev, Hs, Hb, HO, ⟨Hp, Hps⟩, Hk⟩
      unfold itemProg
      dsimp only
      iapply (wp_round X K c r)
      isplitr; · iexact HR
      isplitr; · iexact Hlev
      isplitl [Hs]; · iexact Hs
      isplitl [Hb]; · iexact Hb
      isplitl [HO]; · iexact HO
      isplitl [Hp]; · iexact Hp
      iintro ⟨Hs, Hb, HO, Hd⟩
      iapply ih
      isplitr; · iexact HR
      isplitr; · iexact Hlev
      isplitl [Hs]; · iexact Hs
      isplitl [Hb]; · iexact Hb
      isplitl [HO]; · iexact HO
      isplitl [Hps]; · iexact Hps
      iintro ⟨Hs, Hb, HO, Hds⟩
      iapply Hk
      isplitl [Hs]; · iexact Hs
      isplitl [Hb]; · iexact Hb
      isplitl [HO]; · iexact HO
      isplitl [Hd] <;> iassumption

/-! ## The barrier -/

/-- What device `c` starts the barrier with, besides memory and obligations. -/
def barPkg (c : Dev nD) : sProp 𝕄 :=
  iprop(atPos ER (barCell c) 0 ∅ 0 ∗ dutyTok ER (barCell (nbr 0 c)) 0 0 ∗ dutyTok ER (barCell (nbr 1 c)) 0 1
    ∗ dutyTok ER (barCell (nbr 2 c)) 0 2 ∗ dutyTok ER (barCell (nbr 3 c)) 0 3 ∗ cred (tallyAt (barCell c) () 4))

theorem payload_bar (c : Dev nD) (e : Fin 4) :
    (Rd X).payload (kcell (nbr e c) none) 0 e = if e.val < 2 then slotAny c e.val else iprop(emp) := by
  rw [payload_eq]
  show (if e.val < 2 then slotAny (nbr e (nbr e c)) e.val else iprop(emp)) = _
  rw [nbr_nbr]

/-- One signal to a neighbour. -/
theorem wp_bar_signal (c : Dev nD) (e : Fin 4) (O : CellTallies nD τ sig Unit) (Q : PUnit → sProp 𝕄) :
    iprop(records X K ∗ (Rd X).payload (kcell (nbr e c) none) 0 e ∗ dutyTok ER (barCell (nbr e c)) 0 e
        ∗ owing c (O + tallyAt (barCell (nbr e c)) () 1) ∗ (owing c O -∗ Q ⟨⟩))
      ⊢ wpc c (semSignalWord (nbr e c) barS 1#32) Q := by
  unfold wpc owing
  simp only [semSignalWord, Prog.lift, Prog.bind_op, Prog.bind_ret, Prog.pure_eq_ret]
  iintro ⟨#HR, Hpay, Htok, ⟨%W, HO⟩, Hk⟩
  iapply (Rounds.wp_signal 𝒱₀ ER (Rd X) (c : Thread nD τ) none (dst := (nbr e c : Thread nD τ)) (κ := K (nbr e c, none))
      (d := e) (by rw [show ((nbr e c : Thread nD τ), SemLoc.reg barS) = kcell (nbr e c) none from rfl, duties_eq]; exact Finset.mem_univ _)
      (amount_eq X (nbr e c) none e) () O rfl) $$ [HO Htok Hpay]
  · isplitr; · iapply (records_inv X K (nbr e c) none); iexact HR
    isplitl [HO]; · iexact HO
    isplitl [Htok]; · iexact Htok
    isplitl [Hpay]; · iexact Hpay
    iapply (records_reached X K (nbr e c) none); iexact HR
  iintro HO
  rw [wp_ret]; imodintro
  iapply Hk
  iexists W; iexact HO

theorem expect_bar (c : Dev nD) : (Rd X).expect (barCell c) 0 = 4 := by
  rw [show barCell c = kcell c none from rfl, expect_eq]; rfl

/-- The barrier: the device's two slots go out, two neighbours' slots come in. -/
theorem wp_barrier (c : Dev nD) (Q : PUnit → sProp 𝕄) :
    iprop(records X K ∗ levAts L lv ∗ slotAny c 0 ∗ slotAny c 1 ∗ owing c (O₀ c) ∗ barPkg c
        ∗ ((slots c 0 ∗ owing c (owedL c (roundsFrom 0)) ∗ semVal (barCell c) 0) -∗ Q ⟨⟩))
      ⊢ wpc c (barrierProg c) Q := by
  unfold barrierProg wpc O₀ barPkg
  rw [wp_bind]
  iintro ⟨#HR, #Hlev, Hs0, Hs1, HO, ⟨Hat, Ht0, Ht1, Ht2, Ht3, Hcr⟩, Hk⟩
  iapply (wp_bar_signal X K c 0)
  isplitr; · iexact HR
  isplitl [Hs0]; · iapply (Entails.of_eq ((payload_bar X c 0).trans (show _ = slotAny c 0 from rfl)).symm); iexact Hs0
  isplitl [Ht0]; · iexact Ht0
  isplitl [HO]; · iexact HO
  iintro HO
  rw [wp_bind]
  iapply (wp_bar_signal X K c 1)
  isplitr; · iexact HR
  isplitl [Hs1]; · iapply (Entails.of_eq ((payload_bar X c 1).trans (show _ = slotAny c 1 from rfl)).symm); iexact Hs1
  isplitl [Ht1]; · iexact Ht1
  isplitl [HO]; · iexact HO
  iintro HO
  rw [wp_bind]
  iapply (wp_bar_signal X K c 2)
  isplitr; · iexact HR
  isplitr; · iapply (Entails.of_eq (payload_bar X c 2).symm); iempintro
  isplitl [Ht2]; · iexact Ht2
  isplitl [HO]; · iexact HO
  iintro HO
  rw [wp_bind]
  iapply (wp_bar_signal X K c 3)
  isplitr; · iexact HR
  isplitr; · iapply (Entails.of_eq (payload_bar X c 3).symm); iempintro
  isplitl [Ht3]; · iexact Ht3
  isplitl [HO]; · iexact HO
  iintro HO
  ihave HO' := (show owing c (owedL c (roundsFrom 0)) ⊢ iprop(∃ W, owes (c : Thread nD τ) (owedL c (roundsFrom 0)) W : sProp 𝕄) from BI.Entails.refl _) $$ HO
  icases HO' with ⟨%W, HO⟩
  simp only [semWaitWord, Prog.lift, Prog.bind_op, Prog.bind_ret, Prog.pure_eq_ret]
  iapply (Rounds.wp_wait_rest_token 𝒱₀ ER (Rd X) (c : Thread nD τ) none (κ := K (c, none))
      (wpE_semWait_eq 𝒱₀ (c : Thread nD τ) none Set.univ) (Set.mem_univ _) () (O := owedL c (roundsFrom 0)) (W := W) (R := 0) (m := 0) (T := ∅)
      (by rw [expect_bar]; rfl)) $$ [Hcr HO Hat]
  · isplitr; · iapply (records_inv X K c none); iexact HR
    isplitl [Hcr]; · iexact Hcr
    isplitl [HO]; · iexact HO
    isplitr; · iapply (mayWait_bar c); iexact Hlev
    iexact Hat
  iintro ⟨HO, Hat, -, Hpay⟩
  ihave Hp := (Entails.of_eq (rest_bar X c)) $$ Hpay
  icases Hp with ⟨Hs0, Hs1, -, -⟩
  imod (close_cell X K c none) $$ [Hat] with Hz
  · isplitr; · iexact HR
    iexact Hat
  rw [wp_ret]; imodintro
  iapply Hk
  isplitl [Hs0 Hs1]
  · iapply (show iprop(slotAny (nbr 0 c) 0 ∗ slotAny (nbr 1 c) 1) ⊢ (slots c 0 : sProp 𝕄) from BI.Entails.refl _)
    isplitl [Hs0] <;> iassumption
  isplitl [HO]; · unfold owing; iexists _; iexact HO
  iexact Hz

/-! ## The copy in, the conversion out -/

/-- The working block made from the argument block. -/
def inBlk (v : Blk F) : Blk F :=
  shapeCast S1024x256 (shapeCast S1024x256 v shapeCasts_S1024x256_S1024x256) shapeCasts_S1024x256_S1024x256

abbrev stgPts (c : Dev nD) (b : Ref sig .tc) (f : b.ty.Contents (Elt F)) : sProp 𝕄 := ((c : Thread nD τ).loc b) ↦{fullShare} f

theorem wp_copyIn (c : Dev nD) (x : (cc0_stg0_0 : Ref sig .tc).ty.Contents (Elt F)) (v : Blk F) (Q : PUnit → sProp 𝕄) :
    iprop(stgPts c cc0_stg0_0 x ∗ blkAt c v ∗ ((stgPts c cc0_stg0_0 x ∗ blkAt c (inBlk x)) -∗ Q ⟨⟩))
      ⊢ wpc c (copyIn xM bM (Memref.isWhole_whole _)) Q := by
  unfold copyIn wpc
  rw [wp_bind]
  iintro ⟨Hx, Hb, Hk⟩
  unfold ld
  simp only [Prog.lift]
  iapply (wp_load 𝒱₀ (c : Thread nD τ) none Set.univ (m := xM) (Finset.subset_univ _)) $$ Hx
  iintro Hx
  rw [show xM.view.readAt (Elt F) blkR.toLoadRect x = x from Memref.readAt_unit_zero (Elt F) cc0_stg0_0 offs_zero _ x, wp_ret]
  imodintro
  rw [wp_bind]
  iapply (wp_ld c v)
  isplitl [Hb]; · iexact Hb
  iintro Hb
  iapply (wp_st c v)
  isplitl [Hb]; · iexact Hb
  iintro Hb
  iapply Hk
  isplitl [Hx]; · iexact Hx
  iexact Hb

theorem wp_copyOut (c : Dev nD) (y : (cc0_stg1_0 : Ref sig .tc).ty.Contents (Elt F)) (v : Blk F) (Q : PUnit → sProp 𝕄) :
    iprop(stgPts c cc0_stg1_0 y ∗ blkAt c v ∗ ((stgPts c cc0_stg1_0 (extf .f32 v bitsLt_bf16_f32) ∗ blkAt c v) -∗ Q ⟨⟩))
      ⊢ wpc c (copyOut oM bM) Q := by
  unfold copyOut wpc
  rw [wp_bind]
  iintro ⟨Hy, Hb, Hk⟩
  iapply (wp_ld c v)
  isplitl [Hb]; · iexact Hb
  iintro Hb
  simp only [Prog.lift, Prog.bind_op, Prog.bind_ret]
  iapply (wp_load 𝒱₀ (c : Thread nD τ) none Set.univ (m := oM) (Finset.subset_univ _)) $$ Hy
  iintro Hy
  iapply (wp_store 𝒱₀ (c : Thread nD τ) none Set.univ (m := oM) (r := blkR) (Mk := Finset.univ) (Finset.subset_univ _)) $$ Hy
  iintro Hy
  rw [show (oM.access blkR : View sig .tc _ _ _).write (Elt F) y (extf .f32 v bitsLt_bf16_f32) Finset.univ = extf .f32 v bitsLt_bf16_f32 from
    Memref.write_access_unit_zero_univ (Elt F) cc0_stg1_0 offs_zero _ y _, wp_ret]
  imodintro
  iapply Hk
  isplitl [Hy] <;> iassumption

/-! ## The body -/

/-- The ghost state device `c` starts with, besides the cells' records. -/
def linear (c : Dev nD) : sProp 𝕄 := iprop(barPkg c ∗ bigSepL (roundsFrom 0) (pkg c))

/-- The counters device `c` ends with, all at zero. -/
def zeros (c : Dev nD) : sProp 𝕄 := iprop(semVal (barCell c) 0 ∗ bigSepL (roundsFrom 0) (done c))

/-- The body: from the argument block `x` with `X c` its working form, to the converted final block. -/
theorem wp_body (c : Dev nD) (x : (cc0_stg0_0 : Ref sig .tc).ty.Contents (Elt F)) (y : (cc0_stg1_0 : Ref sig .tc).ty.Contents (Elt F))
    (v : Blk F) (hx : X c = inBlk x) (Q : PUnit → sProp 𝕄) :
    iprop(records X K ∗ levAts L lv ∗ linear c ∗ owing c (O₀ c) ∗ slotAny c 0 ∗ slotAny c 1 ∗ blkAt c v
        ∗ stgPts c cc0_stg0_0 x ∗ stgPts c cc0_stg1_0 y
        ∗ ((zeros c ∗ owing c 0 ∗ slotAny c 0 ∗ slotAny c 1 ∗ blkAt c (after X 105 c)
            ∗ stgPts c cc0_stg0_0 x ∗ stgPts c cc0_stg1_0 (extf .f32 (after X 105 c) bitsLt_bf16_f32)) -∗ Q ⟨⟩))
      ⊢ wpc c (cc0_body xM (Memref.isWhole_whole _) oM (Memref.isWhole_whole _) bM (Memref.isWhole_whole _) lM (Memref.isWhole_whole _)
          cc0_scratch2 cc0_scratch3 cc0_scratch4) Q := by
  rw [body_eq]
  unfold bodyProg linear zeros wpc
  simp only [Prog.lift]
  rw [Prog.bind_op, wp_deviceId, Prog.bind_ret, wp_bind]
  iintro ⟨#HR, #Hlev, ⟨HB, Hp⟩, HO, Hs0, Hs1, Hb, Hx, Hy, Hk⟩
  iapply (wp_barrier X K c)
  isplitr; · iexact HR
  isplitr; · iexact Hlev
  isplitl [Hs0]; · iexact Hs0
  isplitl [Hs1]; · iexact Hs1
  isplitl [HO]; · iexact HO
  isplitl [HB]; · iexact HB
  iintro ⟨Hs, HO, Hz⟩
  rw [wp_bind]
  iapply (wp_copyIn c x v)
  isplitl [Hx]; · iexact Hx
  isplitl [Hb]; · iexact Hb
  iintro ⟨Hx, Hb⟩
  rw [wp_bind]
  iapply (wp_items X K c 105 0 rfl)
  rw [nOf_zero, after_zero, hx]
  isplitr; · iexact HR
  isplitr; · iexact Hlev
  isplitl [Hs]; · iexact Hs
  isplitl [Hb]; · iexact Hb
  isplitl [HO]; · iexact HO
  isplitl [Hp]; · iexact Hp
  iintro ⟨Hs, Hb, HO, Hd⟩
  iapply (wp_copyOut c y (after X 105 c))
  isplitl [Hy]; · iexact Hy
  isplitl [Hb]; · iexact Hb
  iintro ⟨Hy, Hb⟩
  iapply Hk
  ihave Hs' := (show (slots c 10 : sProp 𝕄) ⊢ iprop(slotAny c 0 ∗ slotAny c 1) from BI.Entails.refl _) $$ Hs
  icases Hs' with ⟨Hs0, Hs1⟩
  isplitl [Hz Hd]; · isplitl [Hz] <;> iassumption
  isplitl [HO]; · iexact HO
  isplitl [Hs0]; · iexact Hs0
  isplitl [Hs1]; · iexact Hs1
  isplitl [Hb]; · iexact Hb
  isplitl [Hx] <;> iassumption

end Cert.KernelIdeal.Sorter

end
-- ==== Proof.Ideal.Deal.lean ====
/-
Dealing the launch's resources: the duty tokens go to the devices that pay them, the launch credit of every cell is what
the devices owe it, and every device's share is what its body starts with.
-/
module

public import proofs.«01_k».proof.Proof.Ideal.Body

@[expose] public section

noncomputable section

namespace Cert.KernelIdeal.Sorter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the semaphores -/

section Sums
variable {M : Type} [URA M]

/-- A conjunction over the semaphores: the barrier's, and the own ones' by kind. -/
theorem bigSep_ck (Φ : Ck → sProp M) : bigSep Finset.univ Φ
    = iprop(Φ none ∗ bigSep Finset.univ (fun r => Φ (some (0, r))) ∗ bigSep Finset.univ (fun r => Φ (some (1, r)))
        ∗ bigSep Finset.univ (fun r => Φ (some (2, r)))) := by
  have h : (Finset.univ.erase none : Finset Ck) = Finset.univ.map Function.Embedding.some := by
    ext k; cases k <;> simp
  rw [bigSep_univ_at Φ none, h, bigSep_map, bigSep_univ_prod,
    bigSep_univ_eq_bigSepL [(0 : Fin 3), 1, 2] (by decide) (by decide)]
  rfl

/-- A conjunction over the rounds, as the body goes through them. -/
theorem bigSep_rounds (Φ : Fin 10 → sProp M) : bigSepL (roundsFrom 0) Φ = bigSep Finset.univ Φ :=
  (bigSep_univ_eq_bigSepL (roundsFrom 0) (by decide) (by decide) Φ).symm

/-- Resources indexed by device and kind, each kind moved between the devices by a permutation. -/
theorem deal {J : Type} [Fintype J] (σ : J → Dev nD ≃ Dev nD) (Φ : Dev nD → J → sProp M) :
    (bigSep Finset.univ fun c => bigSep Finset.univ fun j => Φ c j) = bigSep Finset.univ fun c => bigSep Finset.univ fun j => Φ (σ j c) j := by
  rw [bigSep_univ_comm, bigSep_univ_comm (fun c j => Φ (σ j c) j)]
  exact bigSep_congr fun j _ => bigSep_univ_equiv (σ j) fun c => Φ c j

end Sums

/-! ## The tokens -/

/-- Who pays a duty of a device's cell: the map is its own inverse or the identity. -/
def payer : Ck × Fin 4 → Dev nD ≃ Dev nD
  | (none, e) => nbrEquiv e
  | (some (0, r), _) => peerEquiv r
  | (some (1, _), _) => Equiv.refl _
  | (some (2, r), _) => peerEquiv r

/-- The duty tokens minted for device `c`'s cells. -/
def toks (c : Dev nD) : sProp 𝕄 := bigSep Finset.univ fun j : Ck × Fin 4 => dutyTok ER (kcell c j.1) 0 j.2

/-- The tokens device `c` pays with, and its positions. -/
def barGhost (c : Dev nD) : sProp 𝕄 :=
  iprop(atPos ER (barCell c) 0 ∅ 0 ∗ dutyTok ER (barCell (nbr 0 c)) 0 0 ∗ dutyTok ER (barCell (nbr 1 c)) 0 1
    ∗ dutyTok ER (barCell (nbr 2 c)) 0 2 ∗ dutyTok ER (barCell (nbr 3 c)) 0 3)
def roundGhost (c : Dev nD) (r : Fin 10) : sProp 𝕄 :=
  iprop((atPos ER (readyCell c r) 0 ∅ 0 ∗ atPos ER (sendCell c r) 0 ∅ 0 ∗ atPos ER (recvCell c r) 0 ∅ 0)
    ∗ dutyTok ER (readyCell (peer r c) r) 0 0 ∗ dutyTok ER (sendCell c r) 0 0 ∗ dutyTok ER (recvCell (peer r c) r) 0 0)
def lin (c : Dev nD) : sProp 𝕄 := iprop(barGhost c ∗ bigSep Finset.univ (roundGhost c))

omit [FloatOps F] in
theorem toks_dealt : (bigSep Finset.univ fun c : Dev nD => (toks c : sProp 𝕄))
    ⊢ bigSep Finset.univ fun c : Dev nD => bigSep Finset.univ fun j : Ck × Fin 4 => dutyTok ER (kcell (payer j c) j.1) 0 j.2 := by
  unfold toks
  exact Entails.of_eq (deal payer fun c j => dutyTok ER (kcell c j.1) 0 j.2)

omit [FloatOps F] in
/-- A device's share of positions and tokens. -/
theorem lin_intro (c : Dev nD) :
    iprop((bigSep Finset.univ fun k : Ck => atPos ER (kcell c k) 0 ∅ 0)
        ∗ bigSep Finset.univ fun j : Ck × Fin 4 => dutyTok ER (kcell (payer j c) j.1) 0 j.2) ⊢ (lin c : sProp 𝕄) := by
  have one : ∀ (k : Fin 3) (σ : Fin 10 → Dev nD), (∀ r e, payer (some (k, r), e) c = σ r) →
      (bigSep Finset.univ fun r : Fin 10 => bigSep Finset.univ fun e : Fin 4 => (dutyTok ER (kcell (payer (some (k, r), e) c) (some (k, r))) 0 e : sProp 𝕄))
        ⊢ bigSep Finset.univ fun r : Fin 10 => dutyTok ER (kcell (σ r) (some (k, r))) 0 0 := fun k σ h =>
    bigSep_mono fun r _ => (bigSep_elim (Finset.mem_univ (0 : Fin 4))).trans
      (Entails.of_eq (congrArg (fun d => (dutyTok ER (kcell d (some (k, r))) 0 0 : sProp 𝕄)) (h r 0)))
  unfold lin barGhost
  rw [bigSep_univ_prod, bigSep_ck, bigSep_ck]
  rw [show (bigSep Finset.univ fun r => roundGhost c r : sProp 𝕄) = _ from by
    unfold roundGhost; rw [bigSep_sep', bigSep_sep', bigSep_sep', bigSep_sep', bigSep_sep']]
  rw [bigSep_fin4]
  iintro ⟨⟨HaB, HaR, HaS, HaV⟩, ⟨Ht0, Ht1, Ht2, Ht3⟩, HtR, HtS, HtV⟩
  isplitl [HaB Ht0 Ht1 Ht2 Ht3]
  · isplitl [HaB]; · iexact HaB
    isplitl [Ht0]; · iexact Ht0
    isplitl [Ht1]; · iexact Ht1
    isplitl [Ht2]; · iexact Ht2
    iexact Ht3
  isplitl [HaR HaS HaV]
  · isplitl [HaR]; · iexact HaR
    isplitl [HaS] <;> iassumption
  isplitl [HtR]; · iapply (one 0 (fun r => peer r c) fun r e => rfl); iexact HtR
  isplitl [HtS]; · iapply (one 1 (fun _ => c) fun r e => rfl); iexact HtS
  iapply (one 2 (fun r => peer r c) fun r e => rfl); iexact HtV

/-! ## The launch credit -/

/-- What a cell is owed at launch, by kind. -/
def owedK : Ck → ℕ
  | none => 4
  | some (0, r) => rdy r
  | some (1, _) => 0
  | some (2, _) => N

/-- A tally that every device owes the image of itself under a permutation: each device is owed it once. -/
theorem sum_tally (σ : Dev nD ≃ Dev nD) (k' k : Ck) (n : ℕ) (c : Dev nD) :
    ∑ d : Dev nD, (tallyAt (kcell (σ d) k') () n : CellTallies nD τ sig Unit) (kcell c k) () = if k' = k then n else 0 := by
  by_cases h : k' = k
  · subst h
    rw [if_pos rfl, Finset.sum_eq_single (σ.symm c)]
    · rw [tallyAt_apply, if_pos ⟨by rw [Equiv.apply_symm_apply], rfl⟩]
    · intro d _ hd
      rw [tallyAt_apply, if_neg fun h => hd (by rw [(kcell_inj h.1).1, Equiv.symm_apply_apply])]
    · exact fun h => absurd (Finset.mem_univ _) h
  · rw [if_neg h]
    refine Finset.sum_eq_zero fun d _ => ?_
    rw [tallyAt_apply, if_neg fun h' => h (kcell_inj h'.1).2.symm]

/-- What all devices owe a cell for the rounds of a list. -/
theorem sum_owedL (k : Ck) (c : Dev nD) (rs : List (Fin 10)) :
    ∑ d : Dev nD, owedL d rs (kcell c k) ()
      = (rs.map fun r => (if (some (2, r) : Ck) = k then N else 0) + (if (some (0, r) : Ck) = k then rdy r else 0)).sum := by
  induction rs with
  | nil => exact Finset.sum_eq_zero fun d _ => rfl
  | cons r rs ih =>
    rw [List.map_cons, List.sum_cons, ← ih]
    have e : ∀ d : Dev nD, owedL d (r :: rs) (kcell c k) () = owedL d rs (kcell c k) ()
        + (tallyAt (kcell (peerEquiv r d) (some (2, r))) () N : CellTallies nD τ sig Unit) (kcell c k) ()
        + (tallyAt (kcell (peerEquiv r d) (some (0, r))) () (rdy r) : CellTallies nD τ sig Unit) (kcell c k) () := fun d => rfl
    rw [Finset.sum_congr rfl fun d _ => e d, Finset.sum_add_distrib, Finset.sum_add_distrib, sum_tally, sum_tally]
    omega

/-- The rounds' sums, by kind. -/
theorem rounds_sum (n : ℕ) (f : Fin 10 → ℕ) : ∀ k : Ck,
    ((roundsFrom 0).map fun r => (if (some (2, r) : Ck) = k then n else 0) + (if (some (0, r) : Ck) = k then f r else 0)).sum
      = match k with | none => 0 | some (0, r) => f r | some (1, _) => 0 | some (2, _) => n := by
  rintro (_ | ⟨k, r⟩)
  · simp
  · have e : roundsFrom 0 = [0, 1, 2, 3, 4, 5, 6, 7, 8, 9] := by decide
    rw [e]
    fin_cases k <;> fin_cases r <;> simp

/-- All devices together owe a cell what its waits consume. -/
theorem sum_O₀ (c : Dev nD) (k : Ck) : ∑ d : Dev nD, O₀ d (kcell c k) () = owedK k := by
  have e : ∀ d : Dev nD, O₀ d (kcell c k) () = owedL d (roundsFrom 0) (kcell c k) ()
      + (tallyAt (kcell (nbrEquiv 3 d) none) () 1 : CellTallies nD τ sig Unit) (kcell c k) ()
      + (tallyAt (kcell (nbrEquiv 2 d) none) () 1 : CellTallies nD τ sig Unit) (kcell c k) ()
      + (tallyAt (kcell (nbrEquiv 1 d) none) () 1 : CellTallies nD τ sig Unit) (kcell c k) ()
      + (tallyAt (kcell (nbrEquiv 0 d) none) () 1 : CellTallies nD τ sig Unit) (kcell c k) () := fun d => rfl
  rw [Finset.sum_congr rfl fun d _ => e d, Finset.sum_add_distrib, Finset.sum_add_distrib, Finset.sum_add_distrib, Finset.sum_add_distrib,
    sum_tally, sum_tally, sum_tally, sum_tally, sum_owedL, rounds_sum]
  rcases k with _ | ⟨k, r⟩
  · rfl
  · rw [if_neg (by simp)]
    fin_cases k <;> rfl

omit [FloatOps F] in
theorem launch_cell (c : Dev nD) (k : Ck) :
    tallyOn (kcell c k) (launchCredit (Pipeline.owing O₀) 0 (kcell c k)) = (tallyAt (kcell c k) () (owedK k) : CellTallies nD τ sig Unit) := by
  unfold tallyAt; refine congrArg _ (Finsupp.ext fun u => ?_); cases u
  rw [Pipeline.launchCredit_owing, Finsupp.single_eq_same, sum_O₀]

omit [FloatOps F] in
/-- A device's launch credit, cell by cell. -/
theorem creds (c : Dev nD) :
    (Pipeline.launchCred O₀ c : sProp 𝕄) ⊢ bigSep Finset.univ fun k : Ck => cred (tallyAt (kcell c k) () (owedK k)) := by
  unfold Pipeline.launchCred
  refine (bigSep_subset (Finset.subset_univ (Finset.univ.map ⟨csem, csem_injective⟩))).trans ?_
  rw [bigSep_map]
  exact bigSep_mono fun k _ => Entails.of_eq (congrArg (fun t => (cred t : sProp 𝕄)) (launch_cell c k))

omit [FloatOps F] in
/-- Positions, tokens and credits make what the body starts with. -/
theorem linear_intro (c : Dev nD) :
    iprop(lin c ∗ bigSep Finset.univ fun k : Ck => cred (tallyAt (kcell c k) () (owedK k))) ⊢ (linear c : sProp 𝕄) := by
  unfold lin linear barPkg barGhost
  rw [bigSep_rounds, bigSep_ck]
  rw [show (bigSep Finset.univ fun r => roundGhost c r : sProp 𝕄) = _ from by
    unfold roundGhost; rw [bigSep_sep', bigSep_sep', bigSep_sep', bigSep_sep', bigSep_sep']]
  rw [show (bigSep Finset.univ fun r => pkg c r : sProp 𝕄) = _ from by
    unfold pkg; rw [bigSep_sep', bigSep_sep', bigSep_sep', bigSep_sep', bigSep_sep', bigSep_sep', bigSep_sep']]
  iintro ⟨⟨⟨HaB, Ht0, Ht1, Ht2, Ht3⟩, ⟨HaR, HaS, HaV⟩, HtR, HtS, HtV⟩, HcB, HcR, -, HcV⟩
  isplitl [HaB Ht0 Ht1 Ht2 Ht3 HcB]
  · isplitl [HaB]; · iexact HaB
    isplitl [Ht0]; · iexact Ht0
    isplitl [Ht1]; · iexact Ht1
    isplitl [Ht2]; · iexact Ht2
    isplitl [Ht3]; · iexact Ht3
    iexact HcB
  isplitl [HaR]; · iexact HaR
  isplitl [HaS]; · iexact HaS
  isplitl [HaV]; · iexact HaV
  isplitl [HtR]; · iexact HtR
  isplitl [HtS]; · iexact HtS
  isplitl [HtV]; · iexact HtV
  isplitl [HcR]; · iexact HcR
  iexact HcV

/-! ## The semaphores at zero -/

omit [FloatOps F] in
theorem ownSems0_eq (c : Dev nD) : (Pipeline.ownSems0 (Ix := Unit) (Name := ℕ) (U := UU) (Lvl := ℕ) (Val := Elt F) (τ := τ) osem c : sProp 𝕄)
    = iprop(bigSep Finset.univ (fun r => semVal (readyCell c r) 0) ∗ bigSep Finset.univ (fun r => semVal (sendCell c r) 0)
        ∗ bigSep Finset.univ (fun r => semVal (recvCell c r) 0)) := by
  unfold Pipeline.ownSems0
  rw [bigSep_univ_prod, bigSep_univ_eq_bigSepL [(0 : Fin 3), 1, 2] (by decide) (by decide)]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every semaphore of the protocol is one of the launch's. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell c k) 0 : sProp 𝕄) := by
  rw [ownSems0_eq, unscopedSems0_eq, bigSep_ck]
  iintro ⟨H, HB⟩
  isplitl [HB]; · iexact HB
  iexact H

omit [FloatOps F] in
/-- The counters the body leaves at zero are the launch's. -/
theorem zeros_exit (c : Dev nD) :
    (zeros c : sProp 𝕄) ⊢ iprop(unscopedSems0 c ∗ Pipeline.ownSems0 (Ix := Unit) (Name := ℕ) (U := UU) (Lvl := ℕ) (Val := Elt F) (τ := τ) osem c) := by
  unfold zeros
  rw [ownSems0_eq, unscopedSems0_eq, bigSep_rounds]
  rw [show (bigSep Finset.univ fun r => done c r : sProp 𝕄) = _ from by unfold done; rw [bigSep_sep', bigSep_sep']]

end Cert.KernelIdeal.Sorter

end
-- ==== Proof.Ideal.Launch.lean ====
/-
The launch: from every memory with zero counters the sixteen devices run to the end, every counter at zero again, and
the result array of each device holds its block after all the stages.
-/
module

public import proofs.«01_k».proof.Proof.Ideal.Deal
public import Idealize.ShloMosaic.Lib.Pipeline.CollectiveSegs

@[expose] public section

noncomputable section

namespace Cert.KernelIdeal.Sorter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The initial state. -/
def s₀ : MemSt nD τ sig (Elt F) := ⟨m, fun _ => 0, ρ⟩

/-- Device `c`'s argument block, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The blocks the stages start from. -/
def start₀ : Dev nD → Blk F := fun c => inBlk (xstg m ρ c)

/-- Device `c`'s result block. -/
def outAt (c : Dev nD) : (cc0_stg1_0 : Ref sig .tc).ty.Contents (Elt F) := extf .f32 (after (start₀ m ρ) 105 c) bitsLt_bf16_f32

/-! ## The two landing slots as one buffer -/

omit [FloatOps F] in
/-- A scratch buffer's contents as the working block's. -/
theorem blkAt_eq (c : Dev nD) (v : Blk F) : (blkAt c v : sProp 𝕄) = (((c : Thread nD τ).loc cc0_scratch0) ↦{fullShare} v) := by
  unfold blkAt
  exact congrArg (fun I => (((c : Thread nD τ).loc cc0_scratch0) ↦[I]{fullShare} v : sProp 𝕄)) (View.set_whole cc0_scratch0)

omit [FloatOps F] in
theorem slots_split (c : Dev nD) :
    iprop(∃ f : Buf (Elt F) ((c : Thread nD τ).loc cc0_scratch1), ((c : Thread nD τ).loc cc0_scratch1) ↦{fullShare} f)
      ⊢ (iprop(slotAny c 0 ∗ slotAny c 1) : sProp 𝕄) := by
  unfold slotAny
  iintro ⟨%f, H⟩
  ihave H' := ((Entails.of_eq (congrArg (fun I => (((c : Thread nD τ).loc cc0_scratch1) ↦[I]{fullShare} f : sProp 𝕄)) slotSet_union.symm)).trans
    (pointsTo_union slotSet_disjoint).1) $$ H
  icases H' with ⟨H0, H1⟩
  isplitl [H0]; · iexists f; iexact H0
  iexists f; iexact H1

omit [FloatOps F] in
theorem slots_join (c : Dev nD) :
    (iprop(slotAny c 0 ∗ slotAny c 1) : sProp 𝕄)
      ⊢ iprop(∃ f : Buf (Elt F) ((c : Thread nD τ).loc cc0_scratch1), ((c : Thread nD τ).loc cc0_scratch1) ↦{fullShare} f) := by
  unfold slotAny
  iintro ⟨⟨%f, H0⟩, ⟨%g, H1⟩⟩
  ihave H := (pointsTo_join (ℓ := (c : Thread nD τ).loc cc0_scratch1) (q := fullShare) (f := f) (g := g) slotSet_disjoint) $$ [H0 H1]
  · isplitl [H0] <;> iassumption
  iexists _
  rw [slotSet_union]
  iexact H

/-! ## The invariant between the grid's points -/

def G' (c : Dev nD) : sProp 𝕄 := iprop(∃ K, records (start₀ m ρ) K ∗ lin c)
def start (c : Dev nD) : sProp 𝕄 := iprop((∃ K, records (start₀ m ρ) K) ∗ linear c ∗ levAts L lv)
def Φ₀ (c : Dev nD) : sProp 𝕄 := iprop(start m ρ c ∗ (∃ v, blkAt c v) ∗ slotAny c 0 ∗ slotAny c 1)
def Φ₁ (c : Dev nD) : sProp 𝕄 := iprop(zeros c ∗ blkAt c (after (start₀ m ρ) 105 c) ∗ slotAny c 0 ∗ slotAny c 1)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 40000 in
/-- The body's obligation on core `c`. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body xM (Memref.isWhole_whole _) oM (Memref.isWhole_whole _) bM (Memref.isWhole_whole _) lM (Memref.isWhole_whole _)
      cc0_scratch2 cc0_scratch3 cc0_scratch4) (fun _ => bodyPost m ρ c)
  unfold bodyPre Φ₀ start
  iintro ⟨⟨⟨⟨%K, #HR⟩, Hlin, #Hlev⟩, ⟨%v, Hb⟩, Hs0, Hs1⟩, Ho, ⟨%d0, %g0, %hg0, Hx⟩, ⟨%d1, %g1, %hg1, Hy⟩⟩
  have hx : g0 = xstg m ρ c := by rw [hg0]; unfold Pipeline.Dat.before; rw [if_pos (fetch_0 t0_0)]; rfl
  subst hx
  unfold Pipeline.Dat.owesAt Pipeline.owesWithin
  icases Ho with ⟨%W, %hW, HO⟩
  iapply (wp_body (start₀ m ρ) K c (xstg m ρ c) g1 v rfl)
  isplitr; · iexact HR
  isplitr; · iexact Hlev
  isplitl [Hlin]; · iexact Hlin
  isplitl [HO]; · unfold owing; iexists W; iexact HO
  isplitl [Hs0]; · iexact Hs0
  isplitl [Hs1]; · iexact Hs1
  isplitl [Hb]; · iexact Hb
  isplitl [Hx]; · iexact Hx
  isplitl [Hy]; · iexact Hy
  iintro ⟨Hz, HO, Hs0, Hs1, Hb, Hx, Hy⟩
  unfold bodyPost Φ₁ Pipeline.Dat.owesAt Pipeline.owesWithin owing
  icases HO with ⟨%W', HO⟩
  isplitl [Hz Hb Hs0 Hs1]
  · isplitl [Hz]; · iexact Hz
    isplitl [Hb]; · iexact Hb
    isplitl [Hs0] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hy

/-! ## The launch -/

theorem ownSemFacts : Pipeline.OwnSemFacts cfg0.spec osem := by decide

theorem share_eq (c : Dev nD) (w : Fin cfg0.W) : (dats m ρ 0 c).share w = fullShare := by unfold Pipeline.Dat.share; split <;> rfl

/-- Every cell of the protocol. -/
def allCells : Finset (GSem nD τ sig) :=
  Finset.univ.map ⟨fun ck : Dev nD × Ck => kcell ck.1 ck.2, fun _ _ h => Prod.ext (kcell_inj h).1 (kcell_inj h).2⟩

/-- The duty tokens minted: of every cell's first round, the duties of every name. -/
def allToks : Finset (GSem nD τ sig × ℕ × Fin 4) :=
  Finset.univ.map ⟨fun x : Dev nD × (Ck × Fin 4) => (kcell x.1 x.2.1, 0, x.2.2), fun a b h => by
    have h1 := kcell_inj (congrArg (fun x : GSem nD τ sig × ℕ × Fin 4 => x.1) h)
    have h2 : a.2.2 = b.2.2 := congrArg (fun x : GSem nD τ sig × ℕ × Fin 4 => x.2.2) h
    exact Prod.ext h1.1 (Prod.ext h1.2 h2)⟩

def u₀ : UU :=
  (initOf (Pipeline.cells cfgs cellOf_inj) (Pipeline.launchToks cfgs cellOf_inj), initOf allCells allToks)

/-- What the launch element deals device `c`. -/
def G (c : Dev nD) : sProp 𝕄 :=
  iprop((bigSep Finset.univ fun k : Ck => roundState ER (Rd (start₀ m ρ)) (kcell c k) 0)
    ∗ (bigSep Finset.univ fun k : Ck => iprop(atPos ER (kcell c k) 0 ∅ 0 ∗ reached ER (kcell c k) 0)) ∗ toks c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ck => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd (start₀ m ρ)) allCells allToks) $$ HX with ⟨Hst, Hr, Hat, Htok⟩
  imodintro
  ihave Hst' := (Entails.of_eq (hX fun g => roundState ER (Rd (start₀ m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (start₀ m ρ)) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : Ck => semVal (kcell c k) 0) ∗ bigSep Finset.univ fun k : Ck => roundState ER (Rd (start₀ m ρ)) (kcell c k) 0)
      ⊢ (|={Set.univ}=> bigSep Finset.univ fun k => iprop(∃ κ : ℕ, cellInv ER (Rd (start₀ m ρ)) κ (kcell c k)) : sProp 𝕄) from by
        rw [← bigSep_sep']
        exact (bigSep_mono fun k _ => (Rounds.body_intro ER (Rd (start₀ m ρ)) (kcell c k)).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Ck → ℕ) (c : Dev nD) : iprop(records (start₀ m ρ) K ∗ lin c) ⊢ G' m ρ c := by
  unfold G'
  iintro ⟨#H, Hl⟩
  iexists K
  isplitr; · iexact H
  iexact Hl

theorem regroup :
    (bigSep Finset.univ fun c : Dev nD => iprop((bigSep Finset.univ fun k => iprop(∃ κ : ℕ, cellInv ER (Rd (start₀ m ρ)) κ (kcell c k)))
          ∗ (bigSep Finset.univ fun k => iprop(atPos ER (kcell c k) 0 ∅ 0 ∗ reached ER (kcell c k) 0)) ∗ toks c) : sProp 𝕄)
      ⊢ bigSep Finset.univ (G' m ρ) := by
  rw [bigSep_sep', bigSep_sep', ← bigSep_univ_prod (fun ck : Dev nD × Ck => iprop(∃ κ : ℕ, cellInv ER (Rd (start₀ m ρ)) κ (kcell ck.1 ck.2))),
    bigSep_congr (s := Finset.univ) (fun (c : Dev nD) _ => bigSep_sep' Finset.univ (fun k : Ck => (atPos ER (kcell c k) 0 ∅ 0 : sProp 𝕄)) (fun k => reached ER (kcell c k) 0)),
    bigSep_sep', ← bigSep_univ_prod (fun ck : Dev nD × Ck => (reached ER (kcell ck.1 ck.2) 0 : sProp 𝕄))]
  iintro ⟨HI, ⟨Hat, #HR⟩, Htok⟩
  ihave HK := (BI.bigSep_exists_pi Finset.univ (fun (ck : Dev nD × Ck) (κ : ℕ) => (cellInv ER (Rd (start₀ m ρ)) κ (kcell ck.1 ck.2) : sProp 𝕄))) $$ HI
  icases HK with ⟨%K, #HI⟩
  ihave Htk := (toks_dealt (F := F)) $$ Htok
  iapply (bigSep_with_persistent (R := records (start₀ m ρ) K) fun c _ => ghost_intro m ρ K c)
  isplitr
  · unfold records; isplitl; · iexact HI
    iexact HR
  · iapply ((Entails.of_eq (bigSep_sep' Finset.univ (fun c : Dev nD => bigSep Finset.univ fun k : Ck => (atPos ER (kcell c k) 0 ∅ 0 : sProp 𝕄))
        (fun c : Dev nD => bigSep Finset.univ fun j : Ck × Fin 4 => dutyTok ER (kcell (payer j c) j.1) 0 j.2)).symm).trans
      (bigSep_mono fun c _ => lin_intro c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, ⟨%K, #HR, Hl⟩⟩
  ihave Hc := (creds (F := F) c) $$ Hcr
  imodintro
  isplitl
  · isplitr; · iexists K; iexact HR
    isplitl [Hl Hc]
    · iapply (linear_intro c)
      isplitl [Hl] <;> iassumption
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hb⟩, Hl⟩
  isplitl [Hs]; · iexact Hs
  isplitl [Hb]; · iexists f; rw [blkAt_eq]; iexact Hb
  iapply (slots_split c); iexact Hl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  iintro ⟨Hz, Hb, Hs⟩
  ihave Hz' := (zeros_exit c) $$ Hz
  icases Hz' with ⟨Hu, Ho⟩
  isplitl [Hu]; · iexact Hu
  isplitl [Ho]; · iexact Ho
  isplitl [Hb]; · iexists (after (start₀ m ρ) 105 c); rw [← blkAt_eq]; iexact Hb
  iapply (slots_join c); iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- For any float values, from any memory with zero counters: every weakly fair execution of the sixteen devices' program
    terminates, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

/-- The argument array ends as it began. -/
theorem finalA_x (c : Dev nD) : finalA m ρ c (0 : Fin 2) = m ((c : Thread nD τ).loc main_arg0) :=
  (dats (F := F) m ρ 0 c).arrAt_in 0 rfl _

/-- The result array ends at the block after all the stages, converted. -/
theorem finalA_out (c : Dev nD) : finalA m ρ c (1 : Fin 2) = outAt m ρ c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [hr] at h
  exact h

/-- The staged argument block is the argument array. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

end Cert.KernelIdeal.Sorter

end
-- ==== Proof.Value.Words.lean ====
/-
The kernel's integer arithmetic, as facts about natural numbers: which bits of a global row number are clear, who
the partner of a device is, and which of the two keeps the smaller values.
-/
module

public import proofs.«01_k».proof.Proof.Ideal.Protocol
public import Idealize.ShloMosaic.Lib.SortNet.Sorts
public import Idealize.ShloMosaic.Lib.ValueIdx
public import Idealize.ShloMosaic.Lib.Pipeline.Value

@[expose] public section

noncomputable section

namespace Cert.KernelIdeal.Sorter

open Cert.KernelIdeal Cert.KernelIdeal.Gen
open Idealize.ShloMosaic

/-- The global number of row `i` of device `c`'s block. -/
def gno (c : Dev nD) (i : Fin 1024) : ℕ := 1024 * c.val + i.val

theorem gno_lt (c : Dev nD) (i : Fin 1024) : gno c i < 2 ^ 14 := by
  have hc : c.val < 16 := c.isLt
  have hi := i.isLt
  unfold gno; omega

theorem base_word : ∀ c : Dev nD, Scalar.muli (meW c) 1024#32 = BitVec.ofNat 32 (1024 * c.val) := by decide +kernel

/-- The kernel's row numbers are the global ones. -/
theorem rowsOf_apply (c : Dev nD) (i : Fin 1024) (j : Fin 1) :
    rowsOf c (Shape.pair (d := ![1024, 1]) i j) = BitVec.ofNat 32 (gno c i) := by
  have h : rowsOf c (Shape.pair (d := ![1024, 1]) i j) = BitVec.ofNat 32 (0 * 1024 + i.val) + Scalar.muli (meW c) 1024#32 := rfl
  rw [h, base_word, ← BitVec.ofNat_add]
  congr 1; unfold gno; omega

/-- A word's test of one bit is the number's. -/
theorem bit_word (g e : ℕ) (hg : g < 2 ^ 32) (he : e < 32) :
    (BitVec.ofNat 32 g &&& BitVec.ofNat 32 (2 ^ e) == 0#32) = decide (g &&& 2 ^ e = 0) := by
  have he' : 2 ^ e < 2 ^ 32 := Nat.pow_lt_pow_right (by decide) he
  rw [Bool.eq_iff_iff, beq_iff_eq, decide_eq_true_iff, ← BitVec.toNat_inj, BitVec.toNat_and, BitVec.toNat_ofNat,
    BitVec.toNat_ofNat, Nat.mod_eq_of_lt hg, Nat.mod_eq_of_lt he']
  rfl

/-- The mask of the rows whose global number has bit `e` clear. -/
theorem bitClear_apply (c : Dev nD) (e : ℕ) (he : e < 32) (i : Fin 1024) (j : Fin 1) :
    bitClear (rowsOf c) e (Shape.pair (d := ![1024, 1]) i j) = BitVec.ofBool (decide (gno c i &&& 2 ^ e = 0)) := by
  have h : bitClear (rowsOf c) e (Shape.pair (d := ![1024, 1]) i j) =
      BitVec.ofBool (rowsOf c (Shape.pair (d := ![1024, 1]) i j) &&& BitVec.ofNat 32 (2 ^ e) == 0#32) := rfl
  rw [h, rowsOf_apply, bit_word _ _ (lt_trans (gno_lt c i) (by decide)) he]

/-- A row mask spread over the columns holds the row's bit in every column. -/
theorem spread_apply (m : IVec S1024x1 1) (i : Fin 1024) (q : Fin 256) :
    spread m (Shape.pair (d := ![1024, 256]) i q) = m (Shape.pair (d := ![1024, 1]) i (0 : Fin 1)) := by
  unfold spread
  rw [broadcastTo_apply _ _ (Shape.pair (d := ![1024, 256]) i q) (Shape.pair (d := ![1024, 1]) i (0 : Fin 1)) ?_, shapeCast_self]
  intro a
  match a with
  | ⟨0, _⟩ => rfl
  | ⟨1, _⟩ => rfl

/-- Device `d` keeps the smaller values when its two bits agree. -/
theorem takeMinW_eq : ∀ (d : Dev nD) (r : Fin 10),
    takeMinW d r = BitVec.ofBool (decide (d.val &&& 2 ^ jbE r = 0) == decide (d.val &&& 2 ^ kbE r = 0)) := by decide +kernel

/-- A partner's number: bit `jbE r` is set or cleared. -/
theorem peer_val : ∀ (r : Fin 10) (d : Dev nD),
    if d.val &&& 2 ^ jbE r = 0 then (peer r d).val = d.val + 2 ^ jbE r
    else (peer r d).val + 2 ^ jbE r = d.val := by decide +kernel

theorem jbE_lt : ∀ r : Fin 10, jbE r < 4 := by decide
theorem jbE_lt_kbE : ∀ r : Fin 10, jbE r < kbE r := by decide
theorem kbE_le : ∀ r : Fin 10, kbE r ≤ 4 := by decide

/-- The high bits of a global row number are the device's. -/
theorem gno_high (c : Dev nD) (i : Fin 1024) (e : ℕ) : (gno c i &&& 2 ^ (10 + e) = 0) = (c.val &&& 2 ^ e = 0) := by
  rw [SortNet.and_two_pow_eq_zero_iff_testBit, SortNet.and_two_pow_eq_zero_iff_testBit]
  have h : (gno c i).testBit (10 + e) = c.val.testBit e := by
    have : c.val = gno c i / 2 ^ 10 := by have := i.isLt; unfold gno; omega
    rw [this, Nat.testBit_div_two_pow, Nat.add_comm]
  rw [h]

end Cert.KernelIdeal.Sorter

end
-- ==== Proof.Value.Step.lean ====
/-
What each step does to one row: it keeps the smaller or the larger of the row and its partner row.
-/
module

public import proofs.«01_k».proof.Proof.Value.Words

@[expose] public section

noncomputable section

namespace Cert.KernelIdeal.Sorter

open Cert.KernelIdeal Cert.KernelIdeal.Gen
open Idealize.ShloMosaic

/-- Row `i`, column `q` of a block of extended reals. -/
abbrev cell (v : Blk Ideal) (i : Fin 1024) (q : Fin 256) : EReal := v (Shape.pair (d := ![1024, 256]) i q)

/-! ## The rotations -/

/-- The rows rotated up hold, where no row wraps around, the row `2 ^ b` further. -/
theorem rollUp_cell (b : Fin 10) (v : Blk Ideal) (i i' : Fin 1024) (q : Fin 256) (h : i.val + 2 ^ b.val = i'.val) :
    cell (rollUp b v) i q = cell v i' q := by
  have hi : i.val < 1024 - 2 ^ b.val := by have := i'.isLt; omega
  refine (concatenate_apply_piece (t := S1024x256) (0 : Fin 2)
    [⟨highS b, extractStridedSlice (highS b) ![2 ^ b.val, 0] v (slices_tail b)⟩,
      ⟨lowS b, extractStridedSlice (lowS b) ![0, 0] v (slices_top b)⟩] (concat_up b)
    (Shape.pair (d := ![1024, 256]) i q) 0 (by simp) (highS b) _ rfl rfl 0 rfl
    (Shape.pair (d := ![1024 - 2 ^ b.val, 256]) ⟨i.val, hi⟩ q) ?_ ?_).trans ?_
  · intro a ha
    match a with
    | ⟨0, _⟩ => exact absurd rfl ha
    | ⟨1, _⟩ => rfl
  · exact Nat.zero_add _
  · refine extractStridedSlice_apply _ _ _ _ _ fun a => ?_
    match a with
    | ⟨0, _⟩ => exact (by rw [Nat.add_comm]; exact h : 2 ^ b.val + i.val = i'.val).symm
    | ⟨1, _⟩ => exact (Nat.zero_add q.val).symm

/-- The rows rotated down hold, where no row wraps around, the row `2 ^ b` before. -/
theorem rollDown_cell (b : Fin 10) (v : Blk Ideal) (i i' : Fin 1024) (q : Fin 256) (h : i'.val + 2 ^ b.val = i.val) :
    cell (rollDown b v) i q = cell v i' q := by
  have hi : i'.val < 1024 - 2 ^ b.val := by have := i.isLt; omega
  refine (concatenate_apply_piece (t := S1024x256) (0 : Fin 2)
    [⟨lowS b, extractStridedSlice (lowS b) ![1024 - 2 ^ b.val, 0] v (slices_bot b)⟩,
      ⟨highS b, extractStridedSlice (highS b) ![0, 0] v (slices_init b)⟩] (concat_down b)
    (Shape.pair (d := ![1024, 256]) i q) 1 (by simp) (highS b) _ rfl rfl (2 ^ b.val) ((Nat.add_zero _).trans rfl)
    (Shape.pair (d := ![1024 - 2 ^ b.val, 256]) ⟨i'.val, hi⟩ q) ?_ ?_).trans ?_
  · intro a ha
    match a with
    | ⟨0, _⟩ => exact absurd rfl ha
    | ⟨1, _⟩ => rfl
  · exact (by rw [Nat.add_comm]; exact h : 2 ^ b.val + i'.val = i.val)
  · refine extractStridedSlice_apply _ _ _ _ _ fun a => ?_
    match a with
    | ⟨0, _⟩ => exact (Nat.zero_add i'.val).symm
    | ⟨1, _⟩ => exact (Nat.zero_add q.val).symm

/-! ## A step inside a block -/

theorem select_ofBool {α : Type} (p : Bool) (x y : α) : Scalar.select (BitVec.ofBool p) x y = if p then x else y := by
  cases p <;> rfl

/-- Every row `i` of the partner block is the row `i'` whose number differs from `i`'s in bit `b`. -/
theorem partnerVal_cell (c : Dev nD) (b : Fin 10) (v : Blk Ideal) (i i' : Fin 1024) (q : Fin 256)
    (h : if gno c i &&& 2 ^ b.val = 0 then i.val + 2 ^ b.val = i'.val else i'.val + 2 ^ b.val = i.val) :
    cell (partnerVal (rowsOf c) b v) i q = cell v i' q := by
  have e : cell (partnerVal (rowsOf c) b v) i q =
      Scalar.select (spread (bitClear (rowsOf c) b.val) (Shape.pair (d := ![1024, 256]) i q)) (cell (rollUp b v) i q)
        (cell (rollDown b v) i q) := rfl
  rw [e, spread_apply, bitClear_apply c b.val (by omega), select_ofBool]
  by_cases hg : gno c i &&& 2 ^ b.val = 0
  · rw [if_pos hg] at h
    rw [if_pos (decide_eq_true hg)]; exact rollUp_cell b v i i' q h
  · rw [if_neg hg] at h
    rw [decide_eq_false hg, if_neg (by decide)]; exact rollDown_cell b v i i' q h

theorem xnor_word : ∀ p s : Bool,
    IntOp.xori (IntOp.xori (BitVec.ofBool p) (BitVec.ofBool s)) (1#1) = BitVec.ofBool (p == s) := by decide

/-- A step inside a block keeps the smaller of a row and its partner where the two bits of the row's number agree, and
    the larger elsewhere. -/
theorem stageVal_cell (c : Dev nD) (a : ℕ) (ha : a < 31) (b : Fin 10) (v : Blk Ideal) (i i' : Fin 1024) (q : Fin 256)
    (h : if gno c i &&& 2 ^ b.val = 0 then i.val + 2 ^ b.val = i'.val else i'.val + 2 ^ b.val = i.val) :
    cell (stageVal (rowsOf c) a b v) i q =
      if decide (gno c i &&& 2 ^ b.val = 0) == decide (gno c i &&& 2 ^ (a + 1) = 0) then min (cell v i q) (cell v i' q)
      else max (cell v i q) (cell v i' q) := by
  unfold stageVal
  rw [shapeCast_self]
  have e : cell (select (spread (xori (xori (bitClear (rowsOf c) b.val) (bitClear (rowsOf c) (a + 1))) (constantI S1024x1 1 1#1)))
        (minimumf v (partnerVal (rowsOf c) b v)) (maximumf v (partnerVal (rowsOf c) b v))) i q =
      Scalar.select
        (spread (xori (xori (bitClear (rowsOf c) b.val) (bitClear (rowsOf c) (a + 1))) (constantI S1024x1 1 1#1))
          (Shape.pair (d := ![1024, 256]) i q))
        (min (cell v i q) (cell (partnerVal (rowsOf c) b v) i q)) (max (cell v i q) (cell (partnerVal (rowsOf c) b v) i q)) := rfl
  rw [e, spread_apply, partnerVal_cell c b v i i' q h]
  have w : xori (xori (bitClear (rowsOf c) b.val) (bitClear (rowsOf c) (a + 1))) (constantI S1024x1 1 1#1)
        (Shape.pair (d := ![1024, 1]) i (0 : Fin 1)) =
      IntOp.xori (IntOp.xori (bitClear (rowsOf c) b.val (Shape.pair (d := ![1024, 1]) i (0 : Fin 1)))
        (bitClear (rowsOf c) (a + 1) (Shape.pair (d := ![1024, 1]) i (0 : Fin 1)))) (1#1) := rfl
  rw [w, bitClear_apply c b.val (by omega), bitClear_apply c (a + 1) (by omega), xnor_word, select_ofBool]

/-! ## A round -/

/-- A round keeps, on a whole block, the smaller or the larger of each row and the partner device's same row. -/
theorem combine_cell (d : Dev nD) (r : Fin 10) (v u : Blk Ideal) (i : Fin 1024) (q : Fin 256) :
    cell (combine d r v u) i q =
      if decide (d.val &&& 2 ^ jbE r = 0) == decide (d.val &&& 2 ^ kbE r = 0) then min (cell v i q) (cell u i q)
      else max (cell v i q) (cell u i q) := by
  unfold combine
  rw [shapeCast_self, takeMinW_eq, select_ofBool]
  split_ifs <;> rfl

end Cert.KernelIdeal.Sorter

end
-- ==== Proof.Value.Network.lean ====
/-
The kernel's 105 steps, read down one column over all devices, are the bitonic sorting network on 2 ^ 14 positions.
-/
module

public import proofs.«01_k».proof.Proof.Value.Step

@[expose] public section

noncomputable section

namespace Cert.KernelIdeal.Sorter

open Cert.KernelIdeal Cert.KernelIdeal.Gen
open Idealize.ShloMosaic Idealize.ShloMosaic.SortNet

/-! ## Columns -/

/-- Column `q` over all devices, the devices' rows in the order of the devices. -/
def col (X : Dev nD → Blk Ideal) (q : Fin 256) (g : Fin (2 ^ 14)) : EReal :=
  cell (X ⟨g.val / 1024, by have := g.isLt; show _ < 16; omega⟩) ⟨g.val % 1024, Nat.mod_lt _ (by decide)⟩ q

/-- The place of row `i` of device `c` in a column. -/
def pos (c : Dev nD) (i : Fin 1024) : Fin (2 ^ 14) := ⟨gno c i, gno_lt c i⟩

theorem col_pos (X : Dev nD → Blk Ideal) (q : Fin 256) (c : Dev nD) (i : Fin 1024) : col X q (pos c i) = cell (X c) i q := by
  have hi := i.isLt
  have hc : (⟨(pos c i).val / 1024, by have := (pos c i).isLt; show _ < 16; omega⟩ : Dev nD) = c :=
    Fin.ext (show gno c i / 1024 = c.val by unfold gno; omega)
  have hr : (⟨(pos c i).val % 1024, Nat.mod_lt _ (by decide)⟩ : Fin 1024) = i :=
    Fin.ext (show gno c i % 1024 = i.val by unfold gno; omega)
  unfold col
  rw [hc, hr]

/-- Every place of a column is a row of a device. -/
theorem pos_surjective (g : Fin (2 ^ 14)) : ∃ c i, g = pos c i := by
  have hg := g.isLt
  refine ⟨⟨g.val / 1024, by show _ < 16; omega⟩, ⟨g.val % 1024, Nat.mod_lt _ (by decide)⟩, Fin.ext ?_⟩
  show g.val = 1024 * (g.val / 1024) + g.val % 1024
  omega

theorem pos_ext {c c' : Dev nD} {i i' : Fin 1024} (hc : c = c') (hi : i = i') : pos c i = pos c' i' := by rw [hc, hi]

/-! ## A stage of the network at a place -/

/-- Whether place `g` keeps the smaller value at level `l`, distance `2 ^ s`. -/
def keepMin (l s g : ℕ) : Bool := decide (g &&& 2 ^ s = 0) == decide (g &&& 2 ^ (l + 1) = 0)

/-- The stage of the ascending bitonic sorter at level `l`, distance `2 ^ s`. -/
def netStage (l s : ℕ) : Network (2 ^ 14) := stage 14 s fun i => decide (i.val &&& 2 ^ (l + 1) = 0) == false

/-- The partner's bit `s` is the other one. -/
theorem partner_low {s : ℕ} (hs : s < 14) (j : Fin (2 ^ 14)) :
    decide ((partner 14 s j).val &&& 2 ^ s = 0) = !decide (j.val &&& 2 ^ s = 0) := by
  by_cases h : j.val &&& 2 ^ s = 0
  · rw [partner_and hs j h, decide_eq_true h]
    exact decide_eq_false (Nat.two_pow_pos s).ne'
  · rw [decide_eq_true (partner_and_of_set hs j h), decide_eq_false h]; rfl

/-- The partner's higher bits are the same. -/
theorem partner_high {s e : ℕ} (hs : s < 14) (hse : s < e) (j : Fin (2 ^ 14)) :
    decide ((partner 14 s j).val &&& 2 ^ e = 0) = decide (j.val &&& 2 ^ e = 0) := by
  congr 1
  rw [partner_val hs, and_two_pow_eq_zero_iff_testBit, and_two_pow_eq_zero_iff_testBit, Nat.testBit_xor, Nat.testBit_two_pow,
    decide_eq_false (by omega : ¬ s = e), Bool.xor_false]

/-- A stage leaves at each place the smaller or the larger of its value and its partner's. -/
theorem netStage_apply (l s : ℕ) (hsl : s ≤ l) (hs : s < 14) (v : Fin (2 ^ 14) → EReal) (j : Fin (2 ^ 14)) :
    Network.apply (netStage l s) v j =
      if keepMin l s j.val then min (v j) (v (partner 14 s j)) else max (v j) (v (partner 14 s j)) := by
  have e : netStage l s = stage 14 s fun j => !keepMin l s j.val :=
    stage_congr fun i hi => by unfold keepMin; rw [decide_eq_true hi]; cases decide (i.val &&& 2 ^ (l + 1) = 0) <;> rfl
  rw [e, apply_stage_select hs _ ?_, ite_lt_eq_max_min]
  · cases keepMin l s j.val <;> rfl
  · intro j
    unfold keepMin
    rw [partner_low hs, partner_high hs (by omega)]
    cases decide (j.val &&& 2 ^ s = 0) <;> cases decide (j.val &&& 2 ^ (l + 1) = 0) <;> rfl

/-! ## The partner's place -/

/-- At a distance inside a block the partner is a row of the same device. -/
theorem partner_pos_local (c : Dev nD) (i : Fin 1024) (b : Fin 10) : ∃ i' : Fin 1024,
    partner 14 b.val (pos c i) = pos c i' ∧
      if gno c i &&& 2 ^ b.val = 0 then i.val + 2 ^ b.val = i'.val else i'.val + 2 ^ b.val = i.val := by
  have hb : b.val < 14 := by omega
  have hp := partner_val hb (pos c i)
  have hd : (partner 14 b.val (pos c i)).val / 2 ^ 10 = c.val := by
    have h0 : (2 ^ b.val : ℕ) / 2 ^ 10 = 0 := Nat.div_eq_of_lt (Nat.pow_lt_pow_right (by decide) b.isLt)
    rw [hp, Nat.xor_div_two_pow, h0, Nat.xor_zero]
    have := i.isLt
    show gno c i / 2 ^ 10 = c.val
    unfold gno; omega
  have hg : (pos c i).val = 1024 * c.val + i.val := rfl
  refine ⟨⟨(partner 14 b.val (pos c i)).val % 1024, Nat.mod_lt _ (by decide)⟩, Fin.ext ?_, ?_⟩
  · show _ = 1024 * c.val + (partner 14 b.val (pos c i)).val % 1024
    omega
  · by_cases h : gno c i &&& 2 ^ b.val = 0
    · rw [if_pos h]
      have := partner_val_of_clear hb (pos c i) h
      show i.val + 2 ^ b.val = (partner 14 b.val (pos c i)).val % 1024
      omega
    · rw [if_neg h]
      have := partner_val_of_set hb (pos c i) h
      show (partner 14 b.val (pos c i)).val % 1024 + 2 ^ b.val = i.val
      omega

/-- At a distance of whole blocks the partner is the same row of the partner device. -/
theorem partner_pos_remote (c : Dev nD) (i : Fin 1024) (r : Fin 10) :
    partner 14 (10 + jbE r) (pos c i) = pos (peer r c) i := by
  have hs : 10 + jbE r < 14 := by have := jbE_lt r; omega
  have hv := peer_val r c
  have e : (2 ^ (10 + jbE r) : ℕ) = 1024 * 2 ^ jbE r := by rw [Nat.pow_add]
  have hg : (pos c i).val = 1024 * c.val + i.val := rfl
  refine Fin.ext ?_
  show _ = 1024 * (peer r c).val + i.val
  by_cases h : c.val &&& 2 ^ jbE r = 0
  · rw [if_pos h] at hv
    have := partner_val_of_clear hs (pos c i) ((gno_high c i (jbE r)).mpr h)
    omega
  · rw [if_neg h] at hv
    have := partner_val_of_set hs (pos c i) (fun h' => h ((gno_high c i (jbE r)).mp h'))
    omega

/-! ## A step of the kernel is a stage -/

/-- The level and the distance's exponent of a step. -/
def code : Item → ℕ × ℕ
  | .loc a b => (a, b.val)
  | .rem r => (kbE r + 9, 10 + jbE r)

/-- A step inside a block stays within the runs its level sorts. -/
def Item.ok : Item → Bool
  | .loc a b => decide (b.val ≤ a) && decide (a < 14)
  | .rem _ => true

/-- A step of the kernel, read down a column, is the network's stage. -/
theorem gstep_col (it : Item) (hok : it.ok = true) (X : Dev nD → Blk Ideal) (q : Fin 256) :
    col (fun c => gstep it X c) q = Network.apply (netStage (code it).1 (code it).2) (col X q) := by
  funext g
  obtain ⟨c, i, rfl⟩ := pos_surjective g
  rw [col_pos]
  cases it with
  | loc a b =>
    obtain ⟨hba, ha⟩ : b.val ≤ a ∧ a < 14 := by
      unfold Item.ok at hok
      rw [Bool.and_eq_true, decide_eq_true_iff, decide_eq_true_iff] at hok
      exact hok
    obtain ⟨i', hp, hi'⟩ := partner_pos_local c i b
    show cell (stageVal (rowsOf c) a b (X c)) i q = Network.apply (netStage a b.val) (col X q) (pos c i)
    rw [netStage_apply a b.val hba (by omega), hp, col_pos, col_pos, stageVal_cell c a (by omega) b (X c) i i' q hi']
    rfl
  | rem r =>
    have h1 := jbE_lt_kbE r
    have h2 := jbE_lt r
    show cell (combine c r (X c) (X (peer r c))) i q = Network.apply (netStage (kbE r + 9) (10 + jbE r)) (col X q) (pos c i)
    rw [netStage_apply (kbE r + 9) (10 + jbE r) (by omega) (by omega), partner_pos_remote, col_pos, col_pos, combine_cell]
    have hk : keepMin (kbE r + 9) (10 + jbE r) (pos c i).val =
        (decide (c.val &&& 2 ^ jbE r = 0) == decide (c.val &&& 2 ^ kbE r = 0)) := by
      have e : kbE r + 9 + 1 = 10 + kbE r := by omega
      unfold keepMin
      rw [e]
      congr 1
      · exact decide_eq_decide.mpr (iff_of_eq (gno_high c i (jbE r)))
      · exact decide_eq_decide.mpr (iff_of_eq (gno_high c i (kbE r)))
    rw [hk]

/-- A list of steps is the stages one after another. -/
theorem foldl_col (L : List Item) (hL : ∀ it ∈ L, it.ok = true) (X : Dev nD → Blk Ideal) (q : Fin 256) :
    col (L.foldl (fun Y it => gstep it Y) X) q = Network.apply ((L.map code).flatMap fun p => netStage p.1 p.2) (col X q) := by
  induction L generalizing X with
  | nil => rfl
  | cons it L ih =>
    rw [List.foldl_cons, ih (fun x hx => hL x (List.mem_cons_of_mem _ hx)), List.map_cons, List.flatMap_cons, Network.apply_append]
    exact congrArg _ (gstep_col it (hL it List.mem_cons_self) X q)

theorem items_all_ok : ∀ it ∈ items, it.ok = true := by decide

/-- The kernel's steps are the sorter's stages in order. -/
theorem items_code : items.map code = (List.range 14).flatMap fun l => (List.range (l + 1)).reverse.map fun s => (l, s) := by decide

/-- The kernel's steps, read down a column, are the ascending bitonic sorter. -/
theorem after_col (X : Dev nD → Blk Ideal) (q : Fin 256) :
    col (after X 105) q = Network.apply (sortNet 14 false) (col X q) := by
  have e : after X 105 = items.foldl (fun Y it => gstep it Y) X := by
    unfold after
    rw [List.take_of_length_le (le_of_eq items_length)]
  have n : ((items.map code).flatMap fun p => netStage p.1 p.2) = sortNet 14 false := by
    rw [items_code, List.flatMap_assoc]
    unfold sortNet
    congr 1
    funext l
    rw [List.flatMap_map]
    rfl
  rw [e, foldl_col items items_all_ok, n]

end Cert.KernelIdeal.Sorter

end
-- ==== Proof.Value.Sorted.lean ====
/-
The reference sorts each column; so does the network; a column has one ascending rearrangement.
-/
module

public import proofs.«01_k».proof.Proof.Gen.ReferenceIdeal
public import proofs.«01_k».proof.Proof.Value.Network
public import Idealize.ShloMosaic.Lib.SortFacts
public import Idealize.ShloMosaic.Lib.Layout
public import Mathlib.Order.Interval.Finset.Fin

@[expose] public section

noncomputable section

namespace Cert.KernelIdeal.Sorter

open Idealize.ShloMosaic Idealize.ShloMosaic.SortNet

/-- The comparison of the extended reals as a relation of positions. -/
def before {n : ℕ} (f : Fin n → EReal) (k k' : Fin n) : Bool := decide (f k < f k')

/-- A sort by the comparison of the entries leaves them in ascending order. -/
theorem sortedFrom_monotone {n : ℕ} (f : Fin n → EReal) : Monotone (f ∘ sortedFrom (before f)) := by
  intro i j hij
  rcases eq_or_lt_of_le hij with rfl | hlt
  · exact le_rfl
  · have h := sortedFrom_noInversion (before f) (before f)
      (fun a b h => decide_eq_false (not_lt_of_gt (of_decide_eq_true h))) (fun a b h => h)
      (fun a b c hab hbc => decide_eq_false (not_lt.mpr
        ((not_lt.mp (of_decide_eq_false hbc)).trans (not_lt.mp (of_decide_eq_false hab))))) i j hlt
    exact not_lt.mp (of_decide_eq_false h)

/-- A permutation cannot move all positions up to `i` to positions before `i`. -/
theorem exists_le_of_perm {n : ℕ} (ρ : Equiv.Perm (Fin n)) (i : Fin n) : ∃ k, k ≤ i ∧ i ≤ ρ k := by
  by_contra hno
  have hlt : ∀ k ∈ Finset.Iic i, ρ k ∈ Finset.Iio i := fun k hk =>
    Finset.mem_Iio.mpr (lt_of_not_ge fun h => hno ⟨k, Finset.mem_Iic.mp hk, h⟩)
  have hc := Finset.card_le_card_of_injOn ρ hlt (ρ.injective.injOn)
  rw [Fin.card_Iic, Fin.card_Iio] at hc
  omega

/-- Of two ascending rearrangements of the same entries neither exceeds the other anywhere. -/
theorem monotone_le {n : ℕ} (f : Fin n → EReal) (σ τ : Equiv.Perm (Fin n)) (hσ : Monotone (f ∘ σ)) (hτ : Monotone (f ∘ τ))
    (i : Fin n) : f (τ i) ≤ f (σ i) := by
  obtain ⟨k, hk, hik⟩ := exists_le_of_perm (σ.trans τ.symm) i
  have h1 : f (τ i) ≤ f (τ (τ.symm (σ k))) := hτ hik
  rw [Equiv.apply_symm_apply] at h1
  exact h1.trans (hσ hk)

/-- A sort by the comparison of the entries is every ascending rearrangement of them. -/
theorem sortedFrom_unique {n : ℕ} (f : Fin n → EReal) (σ : Equiv.Perm (Fin n)) (hσ : Monotone (f ∘ σ)) :
    f ∘ sortedFrom (before f) = f ∘ σ := by
  have hs := sortedFrom_monotone f
  let ρ : Equiv.Perm (Fin n) := Equiv.ofBijective _ ⟨sortedFrom_injective (before f), sortedFrom_surjective (before f)⟩
  exact funext fun i => le_antisymm (monotone_le f σ ρ hσ hs i) (monotone_le f ρ σ hs hσ i)

/-- The sort of a column and the network's output are the same column. -/
theorem sortedFrom_eq_network (f : Fin (2 ^ 14) → EReal) : f ∘ sortedFrom (before f) = Network.apply (sortNet 14 false) f := by
  obtain ⟨σ, hσ⟩ := Network.exists_perm (sortNet 14 false) f
  have hm := sortNet_apply_monotone 14 f
  rw [hσ] at hm ⊢
  exact sortedFrom_unique f σ hm

/-- The reference's comparator at the extended reals is the strict order. -/
theorem comparator_ideal (l r : EReal) :
    Cert.ReferenceIdeal.comparator_f32_d0 (F := Ideal) l r = BitVec.ofBool (decide (l < r)) := by
  have pick (x z : EReal) : Scalar.select (BitVec.ofBool (decide (x = z))) z x = x := by
    rw [select_ofBool]
    by_cases h : x = z
    · rw [if_pos (decide_eq_true h), h]
    · rw [decide_eq_false h]; rfl
  have skip (x y z : EReal) : Scalar.select (BitVec.ofBool (decide (x ≠ x))) y z = z := by
    rw [decide_eq_false (fun h => h rfl)]; rfl
  have e : Cert.ReferenceIdeal.comparator_f32_d0 (F := Ideal) l r =
      BitVec.ofBool (decide (
        Scalar.select (BitVec.ofBool (decide (l ≠ l))) (FloatOps.ofBits (F := Ideal) .f32 0x7FC00000#32)
          (Scalar.select (BitVec.ofBool (decide (l = FloatOps.ofBits (F := Ideal) .f32 0x00000000#32)))
            (FloatOps.ofBits (F := Ideal) .f32 0x00000000#32) l) <
        Scalar.select (BitVec.ofBool (decide (r ≠ r))) (FloatOps.ofBits (F := Ideal) .f32 0x7FC00000#32)
          (Scalar.select (BitVec.ofBool (decide (r = FloatOps.ofBits (F := Ideal) .f32 0x00000000#32)))
            (FloatOps.ofBits (F := Ideal) .f32 0x00000000#32) r) : Prop)) := rfl
  rw [e, skip, skip, pick, pick]

/-- An entry of the reference's result: the column's entry at the place the sort reads. -/
theorem sort_entry (y : FVec Ideal ⟨2, ![16384, 256]⟩ .f32) (g : Fin 16384) (q : Fin 256) :
    Host.sort ⟨2, ![16384, 256]⟩ 0 Cert.ReferenceIdeal.comparator_f32_d0 y (Shape.pair (d := ![16384, 256]) g q) =
      ((fun k : Fin 16384 => y (Shape.pair (d := ![16384, 256]) k q)) ∘
        sortedFrom (before fun k : Fin 16384 => y (Shape.pair (d := ![16384, 256]) k q))) g := by
  have ha (k : Fin 16384) : (Shape.pair (d := ![16384, 256]) g q).along (0 : Fin 2) k = Shape.pair (d := ![16384, 256]) k q := by
    funext b
    match b with
    | ⟨0, _⟩ => rfl
    | ⟨1, _⟩ => rfl
  have hR : (fun k k' : Fin 16384 =>
        Cert.ReferenceIdeal.comparator_f32_d0 (F := Ideal) (y ((Shape.pair (d := ![16384, 256]) g q).along (0 : Fin 2) k))
          (y ((Shape.pair (d := ![16384, 256]) g q).along (0 : Fin 2) k')) == 1#1) =
      before fun k : Fin 16384 => y (Shape.pair (d := ![16384, 256]) k q) := by
    funext k k'
    rw [comparator_ideal, ha, ha]
    unfold before
    cases decide (y (Shape.pair (d := ![16384, 256]) k q) < y (Shape.pair (d := ![16384, 256]) k' q)) <;> rfl
  have hs : Host.sort ⟨2, ![16384, 256]⟩ 0 Cert.ReferenceIdeal.comparator_f32_d0 y (Shape.pair (d := ![16384, 256]) g q) =
      y ((Shape.pair (d := ![16384, 256]) g q).along (0 : Fin 2) (sortedFrom (fun k k' : Fin 16384 =>
        Cert.ReferenceIdeal.comparator_f32_d0 (F := Ideal) (y ((Shape.pair (d := ![16384, 256]) g q).along (0 : Fin 2) k))
          (y ((Shape.pair (d := ![16384, 256]) g q).along (0 : Fin 2) k')) == 1#1) g)) := rfl
  exact hs.trans ((congrArg y (ha _)).trans
    (congrArg (fun R => y (Shape.pair (d := ![16384, 256]) (sortedFrom R g) q)) hR))

/-- The blocks after all the steps are the blocks of the sorted array, where they start as the blocks of the array. -/
theorem after_eq_block (X : Dev nD → Blk Ideal) (y : FVec Ideal ⟨2, ![16384, 256]⟩ .f32)
    (hT : Layout.Tiles ⟨2, ![1024, 256]⟩ ⟨2, ![16384, 256]⟩ 0 16)
    (hX : ∀ c, X c = fun j => y (hT.idx c j)) (c : Dev nD) :
    after X 105 c = Layout.block ⟨2, ![1024, 256]⟩ ⟨2, ![16384, 256]⟩ 0 16 c
      (Host.sort ⟨2, ![16384, 256]⟩ 0 Cert.ReferenceIdeal.comparator_f32_d0 y) hT := by
  have hidx (c : Dev nD) (i : Fin 1024) (q : Fin 256) :
      hT.idx c (Shape.pair (d := ![1024, 256]) i q) = Shape.pair (d := ![16384, 256]) (pos c i) q := by
    funext b
    match b with
    | ⟨0, _⟩ => exact Fin.ext (by show c.val * 1024 + i.val = gno c i; unfold gno; omega)
    | ⟨1, _⟩ => rfl
  funext j
  obtain ⟨i, q, rfl⟩ : ∃ (i : Fin 1024) (q : Fin 256), j = Shape.pair (d := ![1024, 256]) i q :=
    ⟨j 0, j 1, (Shape.pair_eta j).symm⟩
  have hcol : col X q = fun k : Fin (2 ^ 14) => y (Shape.pair (d := ![16384, 256]) k q) := by
    funext g
    obtain ⟨c', i', rfl⟩ := pos_surjective g
    rw [col_pos, hX c', ← hidx]
  rw [Layout.block_apply, hidx, sort_entry]
  show cell (after X 105 c) i q = _
  rw [← col_pos, after_col, hcol]
  exact (congrFun (sortedFrom_eq_network _) (pos c i)).symm

end Cert.KernelIdeal.Sorter

end
-- ==== Proof.lean ====
/-
The claims of the sorting kernel over sixteen devices: it runs to the end with its argument unchanged and every counter at
zero, read at bit patterns and at the extended reals; so does the reference; and at the extended reals each device's result
is its block of the reference's, the array with every column sorted.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Launch
public import proofs.«01_k».proof.Proof.Word.Launch
public import proofs.«01_k».proof.Proof.Value.Sorted
public import Idealize.ShloMosaic.Adequacy
public import Idealize.ShloMosaic.Init

@[expose] public section

noncomputable section

namespace Cert.Proof

open Idealize.ShloMosaic Idealize.SL.Sem

/-- The kernel runs, read at bit patterns. -/
theorem frame_kernel : Cert.quiescent_Kernel := fun m ρ _ =>
  (θ_run Cert.Kernel.defs _ _).mono (fun _ h => ⟨fun c => (h.1 c (0 : Fin 2)).trans (Cert.Kernel.Sorter.finalA_x m ρ c), h.2⟩)
    (Cert.Kernel.Sorter.run_main (F := Bits) m ρ)

/-- The kernel runs, read at the extended reals. -/
theorem frame_ideal : Cert.quiescent_KernelIdeal := fun m ρ _ =>
  (θ_run Cert.KernelIdeal.defs _ _).mono (fun _ h => ⟨fun c => (h.1 c (0 : Fin 2)).trans (Cert.KernelIdeal.Sorter.finalA_x m ρ c), h.2⟩)
    (Cert.KernelIdeal.Sorter.run_main (F := Ideal) m ρ)

/-- The reference runs; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result: the array with every column sorted. -/
def sorted (x : FVec Ideal ⟨2, ![16384, 256]⟩ .bf16) : FVec Ideal ⟨2, ![16384, 256]⟩ .f32 :=
  Host.sort ⟨2, ![16384, 256]⟩ 0 Cert.ReferenceIdeal.comparator_f32_d0
    (extf (F := Ideal) .f32 x Cert.ReferenceIdeal.Facts₀.bitsLt_bf16_f32)

/-- From arguments that are the blocks of one array, each device's result is its block of that array with every column sorted. -/
theorem out_eq_block (m : (ℓ : Loc Cert.KernelIdeal.nD Cert.KernelIdeal.τ Cert.KernelIdeal.sig) → Buf (Elt Ideal) ℓ)
    (ρ : Dev Cert.KernelIdeal.nD → PrngReg) (x : FVec Ideal ⟨2, ![16384, 256]⟩ .bf16)
    (hx : ∀ c : Dev Cert.KernelIdeal.nD, m ((c.tc : Thread Cert.KernelIdeal.nD Cert.KernelIdeal.τ).loc Cert.KernelIdeal.main_arg0) =
      Layout.block ⟨2, ![1024, 256]⟩ ⟨2, ![16384, 256]⟩ 0 16 c x) (c : Dev Cert.KernelIdeal.nD) :
    Cert.KernelIdeal.Sorter.outAt (F := Ideal) m ρ c = Layout.block ⟨2, ![1024, 256]⟩ ⟨2, ![16384, 256]⟩ 0 16 c (sorted x) :=
  Cert.KernelIdeal.Sorter.after_eq_block (Cert.KernelIdeal.Sorter.start₀ m ρ) _ (by decide) (fun c => by
    unfold Cert.KernelIdeal.Sorter.start₀ Cert.KernelIdeal.Sorter.inBlk
    rw [shapeCast_self, shapeCast_self, Cert.KernelIdeal.Sorter.xstg_eq, hx c]
    rfl) c

/-- At the extended reals each device's result is its block of the reference's. -/
theorem algebraic : Cert.algebraic_KernelIdeal_ReferenceIdeal := by
  intro m ρ m' ρ' _ hagree
  refine ⟨sorted (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun _ h c => ⟨(h.1 c (1 : Fin 2)).trans ?_, (h.1 c (0 : Fin 2)).trans
      (Cert.KernelIdeal.Sorter.finalA_x m ρ c)⟩) (Cert.KernelIdeal.Sorter.run_main (F := Ideal) m ρ)
    exact (Cert.KernelIdeal.Sorter.finalA_out m ρ c).trans (out_eq_block m ρ _ hagree c)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
